-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S128x1024 : Shape := ⟨2, ![128, 1024]⟩
abbrev S128x512 : Shape := ⟨2, ![128, 512]⟩
abbrev S7x128x512 : Shape := ⟨3, ![7, 128, 512]⟩
abbrev S7x4 : Shape := ⟨2, ![7, 4]⟩
abbrev S_ : Shape := ⟨0, ![]⟩
abbrev S128x128 : Shape := ⟨2, ![128, 128]⟩
abbrev S1x1 : Shape := ⟨2, ![1, 1]⟩
abbrev S1x32x512 : Shape := ⟨3, ![1, 32, 512]⟩
abbrev S32x512 : Shape := ⟨2, ![32, 512]⟩

abbrev nBuf : Space → Nat
  | .hbm => 3
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S128x1024, .f32⟩
  | .hbm, ⟨2, _⟩ => ⟨S128x1024, .f32⟩
  | .local _ .vmem, ⟨0, _⟩ => ⟨S1024x128, .f32⟩
  | .local _ .vmem, ⟨1, _⟩ => ⟨S128x1024, .f32⟩
  | .local _ .vmem, ⟨2, _⟩ => ⟨S128x1024, .f32⟩
  | .local _ .vmem, ⟨3, _⟩ => ⟨S128x512, .f32⟩
  | .local _ .vmem, ⟨4, _⟩ => ⟨S128x512, .f32⟩
  | .local _ .vmem, ⟨5, _⟩ => ⟨S7x128x512, .f32⟩
  | .local _ .vmem, ⟨6, _⟩ => ⟨S7x128x512, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 115 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | _ => false

abbrev sig : RefSig :=
  (ofTc nBuf bufTy 1 115 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_8 : BitVec 32 := 1#32
  let v17 : BitVec 32 := Scalar.muli v15 c1_i32_8
  let v18 : BitVec 32 := Scalar.addi c0_i32 v17
  v18.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_10 : BitVec 32 := 1#32
  let v19 : BitVec 32 := Scalar.muli v10 c1_i32_10
  let v20 : BitVec 32 := Scalar.addi c0_i32_11 v19
  v20.toNat
def k0_off1 (d0 : Dev nD) (c7_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v21 : BitVec 32 := Scalar.addi v5 c7_i32_12
  let c8_i32_13 : BitVec 32 := 8#32
  let v22 : BitVec 32 := Scalar.remsi v21 c8_i32_13
  let c4_i32_14 : BitVec 32 := 4#32
  let v23 : BitVec 1 := Scalar.cmpi .slt v22 c4_i32_14
  let c11_i32_15 : BitVec 32 := 11#32
  let v24 : BitVec 32 := Scalar.subi c11_i32_15 v22
  let v25 : BitVec 32 := Scalar.select v23 v22 v24
  let c128_i32 : BitVec 32 := 128#32
  let v26 : BitVec 32 := Scalar.muli v25 c128_i32
  let v27 : Index := Scalar.indexCast v26
  let c0 : Index := 0#32
  ![v27.toNat, 0]
def k0_off1_at (r : Fin 8) : BitVec 32 :=
  if r.val < 4 then
    if r.val < 2 then
      if r.val < 1 then
        7#32
      else
        1#32
    else
      if r.val < 3 then
        14#32
      else
        13#32
  else
    if r.val < 6 then
      if r.val < 5 then
        12#32
      else
        11#32
    else
      if r.val < 7 then
        10#32
      else
        9#32
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_35 : BitVec 32 := 1#32
  let v51 : BitVec 32 := Scalar.muli v10 c1_i32_35
  let v52 : BitVec 32 := Scalar.addi c0_i32_36 v51
  v52.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_46 : BitVec 32 := 1#32
  let v60 : BitVec 32 := Scalar.muli v15 c1_i32_46
  let v61 : BitVec 32 := Scalar.addi c0_i32_47 v60
  v61.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_57 : BitVec 32 := 1#32
  let v69 : BitVec 32 := Scalar.muli v10 c1_i32_57
  let v70 : BitVec 32 := Scalar.addi c0_i32_58 v69
  v70.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_67 : BitVec 32 := 1#32
  let v78 : BitVec 32 := Scalar.muli v15 c1_i32_67
  let v79 : BitVec 32 := Scalar.addi c0_i32_68 v78
  v79.toNat
def k0_dev7 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_78 : BitVec 32 := 1#32
  let v87 : BitVec 32 := Scalar.muli v10 c1_i32_78
  let v88 : BitVec 32 := Scalar.addi c0_i32_79 v87
  v88.toNat
def k0_dev8 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_88 : BitVec 32 := 1#32
  let v96 : BitVec 32 := Scalar.muli v15 c1_i32_88
  let v97 : BitVec 32 := Scalar.addi c0_i32_89 v96
  v97.toNat
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_98 : BitVec 32 := 1#32
  let v105 : BitVec 32 := Scalar.muli v10 c1_i32_98
  let v106 : BitVec 32 := Scalar.addi c0_i32_99 v105
  v106.toNat
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_108 : BitVec 32 := 1#32
  let v114 : BitVec 32 := Scalar.muli v15 c1_i32_108
  let v115 : BitVec 32 := Scalar.addi c0_i32_109 v114
  v115.toNat
def k0_off2 (d0 : Dev nD) (c1_i32_118 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_117 : BitVec 32 := 1#32
  let v128 : BitVec 32 := Scalar.addi v5 c1_i32_117
  let v129 : BitVec 32 := Scalar.addi v128 c1_i32_118
  let c8_i32_119 : BitVec 32 := 8#32
  let v130 : BitVec 32 := Scalar.remsi v129 c8_i32_119
  let c4_i32_120 : BitVec 32 := 4#32
  let v131 : BitVec 1 := Scalar.cmpi .slt v130 c4_i32_120
  let c11_i32_121 : BitVec 32 := 11#32
  let v132 : BitVec 32 := Scalar.subi c11_i32_121 v130
  let v133 : BitVec 32 := Scalar.select v131 v130 v132
  let c128_i32_127 : BitVec 32 := 128#32
  let v141 : BitVec 32 := Scalar.muli v133 c128_i32_127
  let v142 : Index := Scalar.indexCast v141
  let c0_128 : Index := 0#32
  ![v142.toNat, 0]
def k0_dev11 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_156 : BitVec 32 := 1#32
  let v163 : BitVec 32 := Scalar.muli v10 c1_i32_156
  let v164 : BitVec 32 := Scalar.addi c0_i32_157 v163
  v164.toNat
def k0_dev12 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_186 : BitVec 32 := 1#32
  let v188 : BitVec 32 := Scalar.muli v15 c1_i32_186
  let v189 : BitVec 32 := Scalar.addi c0_i32_187 v188
  v189.toNat
def k0_dev13 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_215 : BitVec 32 := 1#32
  let v213 : BitVec 32 := Scalar.muli v10 c1_i32_215
  let v214 : BitVec 32 := Scalar.addi c0_i32_216 v213
  v214.toNat
def k0_dev14 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_245 : BitVec 32 := 1#32
  let v238 : BitVec 32 := Scalar.muli v15 c1_i32_245
  let v239 : BitVec 32 := Scalar.addi c0_i32_246 v238
  v239.toNat
def k0_dev15 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_274 : BitVec 32 := 1#32
  let v263 : BitVec 32 := Scalar.muli v10 c1_i32_274
  let v264 : BitVec 32 := Scalar.addi c0_i32_275 v263
  v264.toNat
def k0_dev16 (d0 : Dev nD) : Nat :=
  let c0_i32_305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_304 : BitVec 32 := 1#32
  let v288 : BitVec 32 := Scalar.muli v15 c1_i32_304
  let v289 : BitVec 32 := Scalar.addi c0_i32_305 v288
  v289.toNat
def k0_dev17 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_333 : BitVec 32 := 1#32
  let v313 : BitVec 32 := Scalar.muli v10 c1_i32_333
  let v314 : BitVec 32 := Scalar.addi c0_i32_334 v313
  v314.toNat
def k0_dev18 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_363 : BitVec 32 := 1#32
  let v338 : BitVec 32 := Scalar.muli v15 c1_i32_363
  let v339 : BitVec 32 := Scalar.addi c0_i32_364 v338
  v339.toNat
def k0_dev19 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_410 : BitVec 32 := 1#32
  let v388 : BitVec 32 := Scalar.muli v10 c1_i32_410
  let v389 : BitVec 32 := Scalar.addi c0_i32_411 v388
  v389.toNat
def k0_dev20 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_440 : BitVec 32 := 1#32
  let v413 : BitVec 32 := Scalar.muli v15 c1_i32_440
  let v414 : BitVec 32 := Scalar.addi c0_i32_441 v413
  v414.toNat
def k0_dev21 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_470 : BitVec 32 := 1#32
  let v438 : BitVec 32 := Scalar.muli v10 c1_i32_470
  let v439 : BitVec 32 := Scalar.addi c0_i32_471 v438
  v439.toNat
def k0_dev22 (d0 : Dev nD) : Nat :=
  let c0_i32_501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_500 : BitVec 32 := 1#32
  let v463 : BitVec 32 := Scalar.muli v15 c1_i32_500
  let v464 : BitVec 32 := Scalar.addi c0_i32_501 v463
  v464.toNat
def k0_dev23 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_530 : BitVec 32 := 1#32
  let v488 : BitVec 32 := Scalar.muli v10 c1_i32_530
  let v489 : BitVec 32 := Scalar.addi c0_i32_531 v488
  v489.toNat
def k0_dev24 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_560 : BitVec 32 := 1#32
  let v513 : BitVec 32 := Scalar.muli v15 c1_i32_560
  let v514 : BitVec 32 := Scalar.addi c0_i32_561 v513
  v514.toNat
def k0_dev25 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_590 : BitVec 32 := 1#32
  let v538 : BitVec 32 := Scalar.muli v10 c1_i32_590
  let v539 : BitVec 32 := Scalar.addi c0_i32_591 v538
  v539.toNat
def k0_dev26 (d0 : Dev nD) : Nat :=
  let c0_i32_621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_620 : BitVec 32 := 1#32
  let v563 : BitVec 32 := Scalar.muli v15 c1_i32_620
  let v564 : BitVec 32 := Scalar.addi c0_i32_621 v563
  v564.toNat
def k0_dev27 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_667 : BitVec 32 := 1#32
  let v613 : BitVec 32 := Scalar.muli v10 c1_i32_667
  let v614 : BitVec 32 := Scalar.addi c0_i32_668 v613
  v614.toNat
def k0_dev28 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_697 : BitVec 32 := 1#32
  let v638 : BitVec 32 := Scalar.muli v15 c1_i32_697
  let v639 : BitVec 32 := Scalar.addi c0_i32_698 v638
  v639.toNat
def k0_dev29 (d0 : Dev nD) : Nat :=
  let c0_i32_728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_727 : BitVec 32 := 1#32
  let v663 : BitVec 32 := Scalar.muli v10 c1_i32_727
  let v664 : BitVec 32 := Scalar.addi c0_i32_728 v663
  v664.toNat
def k0_dev30 (d0 : Dev nD) : Nat :=
  let c0_i32_758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_757 : BitVec 32 := 1#32
  let v688 : BitVec 32 := Scalar.muli v15 c1_i32_757
  let v689 : BitVec 32 := Scalar.addi c0_i32_758 v688
  v689.toNat
def k0_dev31 (d0 : Dev nD) : Nat :=
  let c0_i32_788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_787 : BitVec 32 := 1#32
  let v713 : BitVec 32 := Scalar.muli v10 c1_i32_787
  let v714 : BitVec 32 := Scalar.addi c0_i32_788 v713
  v714.toNat
def k0_dev32 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_817 : BitVec 32 := 1#32
  let v738 : BitVec 32 := Scalar.muli v15 c1_i32_817
  let v739 : BitVec 32 := Scalar.addi c0_i32_818 v738
  v739.toNat
def k0_dev33 (d0 : Dev nD) : Nat :=
  let c0_i32_848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_847 : BitVec 32 := 1#32
  let v763 : BitVec 32 := Scalar.muli v10 c1_i32_847
  let v764 : BitVec 32 := Scalar.addi c0_i32_848 v763
  v764.toNat
def k0_dev34 (d0 : Dev nD) : Nat :=
  let c0_i32_878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_877 : BitVec 32 := 1#32
  let v788 : BitVec 32 := Scalar.muli v15 c1_i32_877
  let v789 : BitVec 32 := Scalar.addi c0_i32_878 v788
  v789.toNat
def k0_dev35 (d0 : Dev nD) : Nat :=
  let c0_i32_926 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_925 : BitVec 32 := 1#32
  let v838 : BitVec 32 := Scalar.muli v10 c1_i32_925
  let v839 : BitVec 32 := Scalar.addi c0_i32_926 v838
  v839.toNat
def k0_dev36 (d0 : Dev nD) : Nat :=
  let c0_i32_956 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_955 : BitVec 32 := 1#32
  let v863 : BitVec 32 := Scalar.muli v15 c1_i32_955
  let v864 : BitVec 32 := Scalar.addi c0_i32_956 v863
  v864.toNat
def k0_dev37 (d0 : Dev nD) : Nat :=
  let c0_i32_986 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_985 : BitVec 32 := 1#32
  let v888 : BitVec 32 := Scalar.muli v10 c1_i32_985
  let v889 : BitVec 32 := Scalar.addi c0_i32_986 v888
  v889.toNat
def k0_dev38 (d0 : Dev nD) : Nat :=
  let c0_i32_1016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_1015 : BitVec 32 := 1#32
  let v913 : BitVec 32 := Scalar.muli v15 c1_i32_1015
  let v914 : BitVec 32 := Scalar.addi c0_i32_1016 v913
  v914.toNat
def k0_dev39 (d0 : Dev nD) : Nat :=
  let c0_i32_1046 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1045 : BitVec 32 := 1#32
  let v938 : BitVec 32 := Scalar.muli v10 c1_i32_1045
  let v939 : BitVec 32 := Scalar.addi c0_i32_1046 v938
  v939.toNat
def k0_dev40 (d0 : Dev nD) : Nat :=
  let c0_i32_1076 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_1075 : BitVec 32 := 1#32
  let v963 : BitVec 32 := Scalar.muli v15 c1_i32_1075
  let v964 : BitVec 32 := Scalar.addi c0_i32_1076 v963
  v964.toNat
def k0_dev41 (d0 : Dev nD) : Nat :=
  let c0_i32_1106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1105 : BitVec 32 := 1#32
  let v988 : BitVec 32 := Scalar.muli v10 c1_i32_1105
  let v989 : BitVec 32 := Scalar.addi c0_i32_1106 v988
  v989.toNat
def k0_dev42 (d0 : Dev nD) : Nat :=
  let c0_i32_1136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_1135 : BitVec 32 := 1#32
  let v1013 : BitVec 32 := Scalar.muli v15 c1_i32_1135
  let v1014 : BitVec 32 := Scalar.addi c0_i32_1136 v1013
  v1014.toNat
def k0_dev43 (d0 : Dev nD) : Nat :=
  let c0_i32_1182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1181 : BitVec 32 := 1#32
  let v1063 : BitVec 32 := Scalar.muli v10 c1_i32_1181
  let v1064 : BitVec 32 := Scalar.addi c0_i32_1182 v1063
  v1064.toNat
def k0_dev44 (d0 : Dev nD) : Nat :=
  let c0_i32_1212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_1211 : BitVec 32 := 1#32
  let v1088 : BitVec 32 := Scalar.muli v15 c1_i32_1211
  let v1089 : BitVec 32 := Scalar.addi c0_i32_1212 v1088
  v1089.toNat
def k0_dev45 (d0 : Dev nD) : Nat :=
  let c0_i32_1242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1241 : BitVec 32 := 1#32
  let v1113 : BitVec 32 := Scalar.muli v10 c1_i32_1241
  let v1114 : BitVec 32 := Scalar.addi c0_i32_1242 v1113
  v1114.toNat
def k0_dev46 (d0 : Dev nD) : Nat :=
  let c0_i32_1272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_1271 : BitVec 32 := 1#32
  let v1138 : BitVec 32 := Scalar.muli v15 c1_i32_1271
  let v1139 : BitVec 32 := Scalar.addi c0_i32_1272 v1138
  v1139.toNat
def k0_dev47 (d0 : Dev nD) : Nat :=
  let c0_i32_1302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1301 : BitVec 32 := 1#32
  let v1163 : BitVec 32 := Scalar.muli v10 c1_i32_1301
  let v1164 : BitVec 32 := Scalar.addi c0_i32_1302 v1163
  v1164.toNat
def k0_dev48 (d0 : Dev nD) : Nat :=
  let c0_i32_1332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_1331 : BitVec 32 := 1#32
  let v1188 : BitVec 32 := Scalar.muli v15 c1_i32_1331
  let v1189 : BitVec 32 := Scalar.addi c0_i32_1332 v1188
  v1189.toNat
def k0_dev49 (d0 : Dev nD) : Nat :=
  let c0_i32_1362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1361 : BitVec 32 := 1#32
  let v1213 : BitVec 32 := Scalar.muli v10 c1_i32_1361
  let v1214 : BitVec 32 := Scalar.addi c0_i32_1362 v1213
  v1214.toNat
def k0_dev50 (d0 : Dev nD) : Nat :=
  let c0_i32_1392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_1391 : BitVec 32 := 1#32
  let v1238 : BitVec 32 := Scalar.muli v15 c1_i32_1391
  let v1239 : BitVec 32 := Scalar.addi c0_i32_1392 v1238
  v1239.toNat
def k0_dev51 (d0 : Dev nD) : Nat :=
  let c0_i32_1438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1437 : BitVec 32 := 1#32
  let v1288 : BitVec 32 := Scalar.muli v10 c1_i32_1437
  let v1289 : BitVec 32 := Scalar.addi c0_i32_1438 v1288
  v1289.toNat
def k0_dev52 (d0 : Dev nD) : Nat :=
  let c0_i32_1468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_1467 : BitVec 32 := 1#32
  let v1313 : BitVec 32 := Scalar.muli v15 c1_i32_1467
  let v1314 : BitVec 32 := Scalar.addi c0_i32_1468 v1313
  v1314.toNat
def k0_dev53 (d0 : Dev nD) : Nat :=
  let c0_i32_1498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1497 : BitVec 32 := 1#32
  let v1338 : BitVec 32 := Scalar.muli v10 c1_i32_1497
  let v1339 : BitVec 32 := Scalar.addi c0_i32_1498 v1338
  v1339.toNat
def k0_dev54 (d0 : Dev nD) : Nat :=
  let c0_i32_1528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_1527 : BitVec 32 := 1#32
  let v1363 : BitVec 32 := Scalar.muli v15 c1_i32_1527
  let v1364 : BitVec 32 := Scalar.addi c0_i32_1528 v1363
  v1364.toNat
def k0_dev55 (d0 : Dev nD) : Nat :=
  let c0_i32_1558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1557 : BitVec 32 := 1#32
  let v1388 : BitVec 32 := Scalar.muli v10 c1_i32_1557
  let v1389 : BitVec 32 := Scalar.addi c0_i32_1558 v1388
  v1389.toNat
def k0_dev56 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_1587 : BitVec 32 := 1#32
  let v1413 : BitVec 32 := Scalar.muli v15 c1_i32_1587
  let v1414 : BitVec 32 := Scalar.addi c0_i32_1588 v1413
  v1414.toNat
def k0_dev57 (d0 : Dev nD) : Nat :=
  let c0_i32_1618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1617 : BitVec 32 := 1#32
  let v1438 : BitVec 32 := Scalar.muli v10 c1_i32_1617
  let v1439 : BitVec 32 := Scalar.addi c0_i32_1618 v1438
  v1439.toNat
def k0_dev58 (d0 : Dev nD) : Nat :=
  let c0_i32_1648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v11 : BitVec 32 := Scalar.addi v5 c7_i32
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_1647 : BitVec 32 := 1#32
  let v1463 : BitVec 32 := Scalar.muli v15 c1_i32_1647
  let v1464 : BitVec 32 := Scalar.addi c0_i32_1648 v1463
  v1464.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1653 : BitVec 32 := 128#32
  let v1473 : BitVec 32 := Scalar.muli v2 c128_i32_1653
  let v1474 : Index := Scalar.indexCast v1473
  let c0_1654 : Index := 0#32
  ![v1474.toNat, 0]
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Script.lean ====
/-
# The kernel's body as a short script

The body runs one protocol: a handshake, two seed products, then seven hops around the ring in
each direction, then the waits that give the sent pieces back. Written out it is a few hundred
memory operations. Here it is written once, by direction, hop and row piece, each operation
passing on to the rest of the program; `body_eq` says the kernel's own text is that script.
-/
module

public import proofs.«01_k».proof.Proof.Gen.KernelIdeal
public import proofs.«01_k».proof.Proof.Gen.KernelIdeal.Skeleton

@[expose] public section

set_option maxRecDepth 16384

noncomputable section

namespace Cert.RingSum

open Cert.KernelIdeal Cert.KernelIdeal.Gen
open Idealize.ShloMosaic Idealize.ShloMosaic.TcCoe Idealize.SL.Sem

variable {F : FTy → Type} [FloatOps F]

/-! ## The buffers

A direction is a `Bool`: `false` sends to the right neighbour and carries columns 0 to 511,
`true` sends to the left one and carries columns 512 to 1023. -/

/-- The staged block of `x`. -/
abbrev xM : Memref sig .tc .vmem S1024x128 .f32 := Memref.whole cc0_stg0_0
/-- The staged block of `w`. -/
abbrev wM : Memref sig .tc .vmem S128x1024 .f32 := Memref.whole cc0_stg1_0
/-- The staged block of the result. -/
abbrev oM : Memref sig .tc .vmem S128x1024 .f32 := Memref.whole cc0_stg2_0

/-- The buffer a direction's first product is stored in. -/
abbrev seedM : Bool → Memref sig .tc .vmem S128x512 .f32
  | false => Memref.whole cc0_scratch0
  | true => Memref.whole cc0_scratch1

/-- The buffer a direction's pieces land in, one slot per hop. -/
abbrev landM : Bool → Memref sig .tc .vmem S7x128x512 .f32
  | false => Memref.whole cc0_scratch2
  | true => Memref.whole cc0_scratch3

/-- The send semaphores of a direction. -/
abbrev sendA : Bool → DmaSems sig S7x4
  | false => cc0_scratch4
  | true => cc0_scratch6

/-- The receive semaphores of a direction. -/
abbrev recvA : Bool → DmaSems sig S7x4
  | false => cc0_scratch5
  | true => cc0_scratch7

/-- The barrier semaphore. -/
abbrev barA : Sems sig S_ := SemArray.scalar (sig.barrier 0 rfl)

/-! ## Pieces: 32 rows of a chunk -/

/-- A piece's semaphore lies in its array. -/
theorem semInb (s : Fin 7) (j : Fin 4) : ∀ a, (![s.val, j.val] : Fin 2 → Nat) a + S1x1.size a ≤ S7x4.size a := by
  revert s j; decide
/-- A quarter of a first product lies in its buffer. -/
theorem seedInb (j : Fin 4) : ∀ a, (![32 * j.val, 0] : Fin 2 → Nat) a + S32x512.size a ≤ S128x512.size a := by
  revert j; decide
/-- A landing place lies in its buffer. -/
theorem slotInb (s : Fin 7) (j : Fin 4) :
    ∀ a, (![s.val, 32 * j.val, 0] : Fin 3 → Nat) a + S1x32x512.size a ≤ S7x128x512.size a := by
  revert s j; decide
/-- The first column a direction carries. -/
abbrev colOff : Bool → ℕ
  | false => 0
  | true => 512
/-- A stored rectangle lies in the result. -/
theorem outInb (d : Bool) (j : Fin 4) :
    ∀ a, (![32 * j.val, colOff d] : Fin 2 → Nat) a + S32x512.size a ≤ S128x1024.size a := by
  revert d j; decide
/-- The columns a direction carries lie in `w`. -/
theorem wInb (d : Bool) : ∀ a, (![0, colOff d] : Fin 2 → Nat) a + S128x512.size a ≤ S128x1024.size a := by
  revert d; decide

/-- Where a piece's semaphore is in its array. -/
abbrev semRect (s : Fin 7) (j : Fin 4) : Rect S7x4 := Rect.unit ![s.val, j.val] S1x1.size (semInb s j)
/-- A quarter of a first product. -/
abbrev seedRect (j : Fin 4) : Rect S128x512 := Rect.unit ![32 * j.val, 0] S32x512.size (seedInb j)
/-- Where a piece lands. -/
abbrev slotRect (s : Fin 7) (j : Fin 4) : Rect S7x128x512 := Rect.unit ![s.val, 32 * j.val, 0] S1x32x512.size (slotInb s j)
/-- The rectangle of the result a direction and quarter end in. -/
abbrev outRect (d : Bool) (j : Fin 4) : Rect S128x1024 := Rect.unit ![32 * j.val, colOff d] S32x512.size (outInb d j)
/-- The columns of `w` a direction multiplies by. -/
abbrev wRect (d : Bool) : Rect S128x1024 := Rect.unit ![0, colOff d] S128x512.size (wInb d)
/-- All of a first product. -/
abbrev wholeRect : Rect S128x512 := Rect.unit ![0, 0] S128x512.size inb_S128x512_S128x512_0_0

/-- The semaphore that says a piece has left. -/
abbrev sendSem (d : Bool) (s : Fin 7) (j : Fin 4) : DmaSem sig :=
  (((sendA d).slice (semRect s j)).squeeze S_ squeezes_S1x1_S_).sem
/-- The semaphore that says a piece has landed. -/
abbrev recvSem (d : Bool) (s : Fin 7) (j : Fin 4) : DmaSem sig :=
  (((recvA d).slice (semRect s j)).squeeze S_ squeezes_S1x1_S_).sem

/-- The landing place of piece `j` of hop `s`. -/
abbrev slotM (d : Bool) (s : Fin 7) (j : Fin 4) : Memref sig .tc .vmem S32x512 .f32 :=
  ((landM d).slice (slotRect s j) (fun _ => rfl)).squeeze S32x512 squeezes_S1x32x512_S32x512

/-- What hop `s` sends: the seed at hop 0, else the slot the previous hop landed in. -/
abbrev srcM (d : Bool) (s : Fin 7) (j : Fin 4) : Memref sig .tc .vmem S32x512 .f32 :=
  match s with
  | ⟨0, _⟩ => (seedM d).slice (seedRect j) (fun _ => rfl)
  | ⟨s + 1, h⟩ => slotM d ⟨s, Nat.lt_of_succ_lt h⟩ j

/-- A quarter of a first product is made of whole words. -/
theorem seed_exact (d : Bool) (j : Fin 4) :
    (((seedM d).slice (seedRect j) (fun _ => rfl)) : Memref sig .tc .vmem S32x512 .f32).view.WordExact :=
  View.wordExact_bits rfl
/-- A landing place is made of whole words. -/
theorem slot_exact (d : Bool) (s : Fin 7) (j : Fin 4) : (slotM d s j).view.WordExact :=
  (View.wordExact_bits rfl).reshape _ _
/-- What a piece is sent from is made of whole words. -/
theorem src_exact (d : Bool) (s : Fin 7) (j : Fin 4) : (srcM d s j).view.WordExact := by
  rcases s with ⟨_ | s, h⟩
  · exact seed_exact d j
  · exact slot_exact d _ j

/-! ## Neighbours and chunks, as the kernel computes them -/

/-- The neighbour's number is that of a device. -/
theorem dev_lt (d : Bool) (c : Dev nD) : (match d with | false => k0_dev3 c | true => k0_dev4 c) < nD := by
  cases d
  · exact k0_dev3_lt c
  · exact k0_dev4_lt c

/-- The neighbour a direction sends to. -/
abbrev toDev (d : Bool) (c : Dev nD) : Dev nD := ⟨match d with | false => k0_dev3 c | true => k0_dev4 c, dev_lt d c⟩

/-- Where in `x` the rows of the chunk of hop `s` begin. -/
abbrev xOff (c : Dev nD) (d : Bool) (s : Fin 8) : Fin 2 → ℕ :=
  match d, s with
  | false, ⟨0, _⟩ => k0_off1 c 7#32
  | true, ⟨0, _⟩ => k0_off1 c 1#32
  | _, ⟨7, _⟩ => k0_off3 c
  | false, ⟨s + 1, _⟩ => k0_off1 c (BitVec.ofNat 32 (14 - s))
  | true, ⟨s + 1, _⟩ => k0_off2 c (BitVec.ofNat 32 (1 + s))

/-- The rows that are read lie in `x`. -/
theorem xInb (c : Dev nD) (d : Bool) (s : Fin 8) : ∀ a, xOff c d s a + S128x128.size a ≤ S1024x128.size a := by
  revert c d s; decide +kernel

/-- The rows of `x` multiplied at a hop. -/
abbrev xRect (c : Dev nD) (d : Bool) (s : Fin 8) : Rect S1024x128 := Rect.unit (xOff c d s) S128x128.size (xInb c d s)

/-! ## The values stored -/

/-- A chunk of `x` times the columns of `w` a direction carries. -/
abbrev prodV (x : Vec F S128x128 .f32) (w : Vec F S128x512 .f32) : FVec F S128x512 .f32 := k0_pay4 x w

/-- A quarter is a slice of a product. -/
theorem sliceOk (j : Fin 4) : S128x512.Slices ![32 * j.val, 0] S32x512 := by
  revert j; decide

/-- Rows `32 j` to `32 j + 31` of a product, added to a piece that landed. -/
abbrev sumV (j : Fin 4) (p : FVec F S128x512 .f32) (v : Vec F S1x32x512 .f32) : FVec F S32x512 .f32 :=
  addf (shapeCast S32x512 v shapeCasts_S1x32x512_S32x512) (extractStridedSlice S32x512 ![32 * j.val, 0] p (sliceOk j))

/-! ## The script -/

variable (F) in
/-- Programs of the body. -/
abbrev P : Type _ := Prog (TpuEff nD τ sig (Elt F) Λ₀ .tc) PUnit

/-- Read the rows of `x` of a hop. -/
def ldX (c : Dev nD) (d : Bool) (s : Fin 8) (k : Vec F S128x128 .f32 → P F) : P F :=
  .op (.load xM (xRect c d s).toLoadRect (View.loadsAt_vmem h_S128x128)) k

/-- Read the columns of `w` of a direction. -/
def ldW (d : Bool) (k : Vec F S128x512 .f32 → P F) : P F :=
  .op (.load wM (wRect d).toLoadRect (View.loadsAt_vmem h_S128x512)) k

/-- Store a direction's first product. -/
def seedE (c : Dev nD) (d : Bool) (k : P F) : P F :=
  ldX c d 0 fun x => ldW d fun w =>
    .op (.load (seedM d) wholeRect.toLoadRect (View.loadsAt_vmem h_S128x512)) fun _ =>
    .op (.store (seedM d) wholeRect (shapeCast S128x512 (prodV x w) shapeCasts_S128x512_S128x512) Finset.univ
      (View.stores_vmem_bits_univ h_S128x512 rfl) (.inl rfl)) fun _ => k

/-- Send a piece to the next device. -/
def sendE (c : Dev nD) (d : Bool) (s : Fin 7) (j : Fin 4) (k : P F) : P F :=
  .op (.enqueueDma (srcM d s j) (.remote (Dev.tc (toDev d c)) (slotM d s j) (.dma (sendSem d s j)) (by cases d <;> rfl)) (.dma (recvSem d s j))
    (src_exact d s j) (slot_exact d s j) ⟨⟨rfl, Or.inl rfl⟩, trivial⟩) fun _ => k

/-- Wait until a piece has landed. -/
def waitE (d : Bool) (s : Fin 7) (j : Fin 4) (k : P F) : P F :=
  .op (.waitDma2 (recvSem d s j) (slotM d s j) (slotM d s j) (slot_exact d s j) (slot_exact d s j)) fun _ => k

/-- Wait for a piece and add this device's product to it where it landed. -/
def addE (d : Bool) (s : Fin 7) (j : Fin 4) (p : FVec F S128x512 .f32) (k : P F) : P F :=
  waitE d s j <|
    .op (.load (landM d) (slotRect s j).toLoadRect (View.loadsAt_vmem h_S1x32x512)) fun v =>
    .op (.load (landM d) (slotRect s j).toLoadRect (View.loadsAt_vmem h_S1x32x512)) fun _ =>
    .op (.store (landM d) (slotRect s j) (shapeCast S1x32x512 (sumV j p v) shapeCasts_S32x512_S1x32x512) Finset.univ
      (View.stores_vmem_bits_univ h_S1x32x512 rfl) (.inl rfl)) fun _ => k

/-- Wait for a last piece and store its sum with this device's product in the result. -/
def finE (d : Bool) (j : Fin 4) (p : FVec F S128x512 .f32) (k : P F) : P F :=
  waitE d 6 j <|
    .op (.load (landM d) (slotRect 6 j).toLoadRect (View.loadsAt_vmem h_S1x32x512)) fun v =>
    .op (.load oM (outRect d j).toLoadRect (View.loadsAt_vmem h_S32x512)) fun _ =>
    .op (.store oM (outRect d j) (sumV j p v) Finset.univ
      (View.stores_vmem_bits_univ h_S32x512 rfl) (.inl rfl)) fun _ => k

/-- Wait until a piece has left. -/
def drainE (d : Bool) (s : Fin 7) (j : Fin 4) (k : P F) : P F :=
  .op (.waitDma2 (sendSem d s j) (slotM d s j) (srcM d s j) (slot_exact d s j) (src_exact d s j)) fun _ => k

/-- The same for each of the four row pieces. -/
def four (f : Fin 4 → P F → P F) (k : P F) : P F := f 0 (f 1 (f 2 (f 3 k)))

/-- Both directions of one thing. -/
def both (f : Bool → P F → P F) (k : P F) : P F := f false (f true k)

/-- Form both directions' products for a hop. -/
def products (c : Dev nD) (s : Fin 8) (k : FVec F S128x512 .f32 → FVec F S128x512 .f32 → P F) : P F :=
  ldX c false s fun x => ldW false fun w => ldX c true s fun x' => ldW true fun w' => k (prodV x w) (prodV x' w')

/-- One hop: every piece is awaited, added to, and sent on. -/
def hopE (c : Dev nD) (s : Fin 6) (k : P F) : P F :=
  products c s.succ.castSucc fun pr pl =>
    four (fun j => both fun d k => addE d s.castSucc j (cond d pl pr) (sendE c d s.succ j k)) k

/-- The last hop: every piece is awaited, added to, and stored. -/
def lastE (c : Dev nD) (k : P F) : P F :=
  products c 7 fun pr pl => four (fun j => both fun d => finE d j (cond d pl pr)) k

/-- Six steps in order. -/
def six (f : Fin 6 → P F → P F) (k : P F) : P F := f 0 (f 1 (f 2 (f 3 (f 4 (f 5 k)))))

/-- Wait for all pieces of a hop to have left. -/
def drains (s : Fin 7) : P F → P F := four fun j => both fun d => drainE d s j

/-- Seven steps in order. -/
def seven (f : Fin 7 → P F → P F) (k : P F) : P F := f 0 (f 1 (f 2 (f 3 (f 4 (f 5 (f 6 k))))))

/-- The whole body of a device. -/
def script (c : Dev nD) : P F :=
  .op (.semSignal ((⟨k0_dev1 c, k0_dev1_lt c⟩ : Dev nD), .tc) barA.sem (1#32 : BitVec 32).toInt) fun _ =>
  .op (.semSignal ((⟨k0_dev2 c, k0_dev2_lt c⟩ : Dev nD), .tc) barA.sem (1#32 : BitVec 32).toInt) fun _ =>
  .op (.semWait barA.sem (2#32 : BitVec 32).toInt) fun _ =>
  both (seedE c) <|
  four (fun j => both fun d => sendE c d 0 j) <|
  six (hopE c) <|
  lastE c <|
  seven drains <|
  .ret ⟨⟩

/-- The printed body asks for its device's number and then runs that device's script. -/
theorem body_eq :
    cc0_body (F := F) xM (Memref.isWhole_whole _) wM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7
    = .op .deviceId script := by
  rw [cc0_body_eq_skeleton]
  rfl

end Cert.RingSum

end
-- ==== Proof.Schedule.lean ====
/-
# Who hands what to whom

Every piece is named by a direction, a hop and a quarter of a chunk. Each device has one cell that
counts a piece going out, one that counts a piece coming in, and one barrier cell. This module
names the cells, says what each arrival hands over, and orders the cells so that no device waits
for something that is owed only after its own wait.
-/
module

public import proofs.«01_k».proof.Proof.Script
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.RingSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What the proof keeps count of: the pipeline's transfers, and the rounds of the kernel's own cells. -/
abbrev UU : Type := UR sig nD τ × URounds (GSem nD τ sig) Bool

local notation "𝕄" => MT nD τ sig Unit (Elt F) ℕ UU ℕ

/-- The pipeline's part of the count. -/
abbrev EP : Emb (UR sig nD τ) (MT nD τ sig Unit (Elt F) ℕ UU ℕ) := embL
/-- The kernel's part of the count. -/
abbrev ER : Emb (URounds (GSem nD τ sig) Bool) (MT nD τ sig Unit (Elt F) ℕ UU ℕ) := embR

variable (m : (ℓ : Loc nD τ sig) → Buf (Elt F) ℓ) (ρ : Dev nD → PrngReg)

/-! ## Neighbours -/

/-- Going one way and then the other comes back. -/
theorem back_to (d : Bool) (c : Dev nD) : toDev (!d) (toDev d c) = c := by revert d c; decide +kernel
/-- A step back and a step on lead back to the start. -/
theorem to_back (d : Bool) (c : Dev nD) : toDev d (toDev (!d) c) = c := by revert d c; decide +kernel
/-- The first signal goes to the left neighbour, the second to the right one. -/
theorem dev1_to (c : Dev nD) : (⟨k0_dev1 c, k0_dev1_lt c⟩ : Dev nD) = toDev true c := by revert c; decide +kernel
/-- The second signal goes to the right neighbour. -/
theorem dev2_to (c : Dev nD) : (⟨k0_dev2 c, k0_dev2_lt c⟩ : Dev nD) = toDev false c := by revert c; decide +kernel

/-- A direction's neighbours as a permutation of the devices. -/
def around (d : Bool) : Dev nD ≃ Dev nD := ⟨toDev d, toDev (!d), back_to d, to_back d⟩

/-- Being next after a device is having that device behind. -/
theorem to_eq_iff (d : Bool) (a c : Dev nD) : Iff (toDev d a = c) (a = toDev (!d) c) :=
  ⟨fun h => by rw [← h, back_to], fun h => by rw [h, to_back]⟩

/-! ## Pieces in the order the program meets them -/

/-- Direction, hop, quarter. -/
abbrev Pc : Type := Bool × Fin 7 × Fin 4

/-- The place of a piece in the order in which pieces are sent. -/
def ord (p : Pc) : ℕ := 8 * p.2.1.val + 2 * p.2.2.val + (cond p.1 1 0)

/-- A piece's number in the order of sending, spelt out. -/
theorem ord_mk (d : Bool) (s : Fin 7) (j : Fin 4) : ord (d, s, j) = 8 * s.val + 2 * j.val + cond d 1 0 := rfl

/-- No two pieces have one number. -/
theorem ord_inj : Function.Injective ord := by
  rintro ⟨d, s, j⟩ ⟨d', s', j'⟩ h
  have hj := j.isLt; have hj' := j'.isLt
  cases d <;> cases d' <;> simp only [ord, cond_true, cond_false] at h <;>
    first
    | (exfalso; omega)
    | (have h1 : s = s' := Fin.ext (by omega)
       have h2 : j = j' := Fin.ext (by omega)
       rw [h1, h2])

/-- There are 56 numbers. -/
theorem ord_lt (p : Pc) : ord p < 56 := by
  obtain ⟨d, s, j⟩ := p
  have hs := s.isLt; have hj := j.isLt
  cases d <;> simp only [ord, cond_true, cond_false] <;> omega

omit [FloatOps F] in
/-- One piece changes its state, the others keep theirs. -/
theorem bigSep_step {I : Type} [Fintype I] [DecidableEq I] (i : I) {Φ Ψ : I → sProp 𝕄} (h : ∀ q, q ≠ i → Φ q = Ψ q) :
    bigSep Finset.univ Φ ⊢ iprop(Φ i ∗ (Ψ i -∗ bigSep Finset.univ Ψ)) := by
  rw [bigSep_univ_at Φ i, bigSep_univ_at Ψ i,
    bigSep_congr (s := Finset.univ.erase i) (Φ := Φ) (Ψ := Ψ) fun q hq => h q (Finset.ne_of_mem_erase hq)]
  iintro ⟨H, Hr⟩
  isplitl [H]; · iexact H
  iintro H
  isplitl [H] <;> iassumption

/-- What is said of the pieces from the `n`-th on, and of the ones before it. -/
def stage (A B : Pc → sProp 𝕄) (n : ℕ) : sProp 𝕄 := bigSep Finset.univ fun p => if n ≤ ord p then A p else B p

omit [FloatOps F] in
/-- Taking the next piece out of a stage, and putting it back done, is the next stage. -/
theorem stage_step (A B : Pc → sProp 𝕄) {n : ℕ} (p : Pc) (hp : ord p = n) :
    stage A B n ⊢ iprop(A p ∗ (B p -∗ stage A B (n + 1))) := by
  unfold stage
  refine (bigSep_step p (Ψ := fun p => if n + 1 ≤ ord p then A p else B p) fun q hq => ?_).trans ?_
  · have : ord q ≠ n := fun h => hq (ord_inj (h.trans hp.symm))
    by_cases h : n ≤ ord q
    · simp only [if_pos h, if_pos (show n + 1 ≤ ord q by omega)]
    · simp only [if_neg h, if_neg (show ¬ n + 1 ≤ ord q by omega)]
  · simp only [hp, le_refl, if_true, Nat.not_succ_le_self, if_false]
    exact BI.Entails.refl _

omit [FloatOps F] in
/-- At the start no piece is done. -/
theorem stage_zero (A B : Pc → sProp 𝕄) : stage A B 0 = bigSep Finset.univ A :=
  bigSep_congr fun p _ => if_pos (Nat.zero_le _)
omit [FloatOps F] in
/-- At the end every piece is done. -/
theorem stage_end (A B : Pc → sProp 𝕄) : stage A B 56 = bigSep Finset.univ B :=
  bigSep_congr fun p _ => if_neg (by have := ord_lt p; omega)

/-! ## The cells -/

/-- A device's cells: the barrier's, and for each piece one counting it out (`false`) and one counting it in (`true`). -/
abbrev CI : Type := Option (Bool × Pc)

/-- A piece's send or receive semaphore. -/
abbrev dsem (k : Bool × Pc) : DmaSem sig :=
  cond k.1 (recvSem k.2.1 k.2.2.1 k.2.2.2) (sendSem k.2.1 k.2.2.1 k.2.2.2)

/-- The number of each such semaphore. -/
theorem dsem_val : ∀ k : Bool × Pc,
    (dsem k).val = 3 + 56 * (cond k.2.1 1 0) + 28 * (cond k.1 1 0) + 4 * k.2.2.1.val + k.2.2.2.val := by
  decide +kernel

/-- No two of them are one. -/
theorem dsem_inj : Function.Injective dsem := by
  rintro ⟨k, d, s, j⟩ ⟨k', d', s', j'⟩ h
  have h := congrArg Fin.val h
  have hs := s.isLt; have hs' := s'.isLt
  have hj := j.isLt; have hj' := j'.isLt
  rw [dsem_val, dsem_val] at h
  cases k <;> cases k' <;> cases d <;> cases d' <;> simp only [cond_true, cond_false] at h <;>
    first
    | (exfalso; omega)
    | (have h1 : s = s' := Fin.ext (by omega)
       have h2 : j = j' := Fin.ext (by omega)
       rw [h1, h2])

/-- The semaphore of a cell. -/
abbrev csem : CI → SemLoc sig
  | none => .reg barA.sem
  | some k => .dma (dsem k)

/-- No two cells of a device have one semaphore. -/
theorem csem_inj : Function.Injective csem := by
  rintro (_ | k) (_ | k') h
  · rfl
  · cases h
  · cases h
  · injection h with h; rw [dsem_inj h]

/-- Which of a device's cells a semaphore is, if any. -/
def cls : SemLoc sig → Option CI := Function.partialInv csem

/-- A cell is recovered from its semaphore. -/
theorem cls_csem (i : CI) : cls (csem i) = some i := Function.partialInv_left csem_inj i

/-- A semaphore of which a cell is recovered is that cell's. -/
theorem cls_spec {sm : SemLoc sig} {i : CI} (h : cls sm = some i) : csem i = sm :=
  (Function.partialInv_of_injective csem_inj i sm).mp h

/-- A device's cell, among those of all devices. -/
abbrev kcell (ck : Dev nD × CI) : GSem nD τ sig := ((ck.1 : Thread nD τ), csem ck.2)
/-- A device's barrier cell. -/
abbrev barCell (c : Dev nD) : GSem nD τ sig := ((c : Thread nD τ), .reg barA.sem)
/-- A device's cell for a piece having left. -/
abbrev sendCell (c : Dev nD) (p : Pc) : GSem nD τ sig := ((c : Thread nD τ), .dma (sendSem p.1 p.2.1 p.2.2))
/-- A device's cell for a piece having landed. -/
abbrev recvCell (c : Dev nD) (p : Pc) : GSem nD τ sig := ((c : Thread nD τ), .dma (recvSem p.1 p.2.1 p.2.2))

/-- The barrier's semaphore is the barrier cell's. -/
theorem cls_bar : cls (.reg barA.sem) = some none := cls_csem none
/-- A send semaphore is its send cell's. -/
theorem cls_send (p : Pc) : cls (.dma (sendSem p.1 p.2.1 p.2.2)) = some (some (false, p)) := cls_csem (some (false, p))
/-- A receive semaphore is its receive cell's. -/
theorem cls_recv (p : Pc) : cls (.dma (recvSem p.1 p.2.1 p.2.2)) = some (some (true, p)) := cls_csem (some (true, p))

/-- A semaphore of the pipeline's own transfers is none of the cells. -/
theorem cls_stage (q : DmaSem sig) (hq : q.val < 3) : cls (.dma q) = none := by
  rcases h : cls (.dma q) with _ | i
  · rfl
  · have h := cls_spec h
    rcases i with _ | k
    · cases h
    · injection h with h
      have := dsem_val k
      rw [h] at this
      omega

/-- No two cells of the mesh are one. -/
theorem kcell_inj : Function.Injective kcell := by
  rintro ⟨c, i⟩ ⟨c', i'⟩ h
  have h1 : c = c' := congrArg (fun g : GSem nD τ sig => g.1.1) h
  have h2 : i = i' := csem_inj (congrArg Prod.snd h)
  rw [h1, h2]

/-- What a piece's transfer adds to a cell. -/
abbrev N : ℕ := (slotM false 0 0).view.dmaCredit
/-- A piece's copy counts for something. -/
theorem N_pos : 0 < N := View.dmaCredit_pos _ (by decide)
/-- A copy into a landing place counts as much as any piece. -/
theorem slot_credit (d : Bool) (s : Fin 7) (j : Fin 4) : (slotM d s j).view.dmaCredit = N := by cases d <;> rfl
/-- So does a copy out of where a piece is sent from. -/
theorem src_credit (d : Bool) (s : Fin 7) (j : Fin 4) : (srcM d s j).view.dmaCredit = N := by
  rcases s with ⟨_ | s, h⟩ <;> cases d <;> rfl

/-! ## The values -/

/-- A device's block of `x` and of `w`, as its core reads them. -/
def xstg (c : Dev nD) : (cc0_stg0_0 : Ref sig .tc).ty.Contents (Elt F) :=
  (win0_0.blk (0 : Fin 1)).view.read (Elt F) (m ((c : Thread nD τ).loc main_arg0))
/-- A device's block of `w`, as its core reads it. -/
def wstg (c : Dev nD) : (cc0_stg1_0 : Ref sig .tc).ty.Contents (Elt F) :=
  (win0_1.blk (0 : Fin 1)).view.read (Elt F) (m ((c : Thread nD τ).loc main_arg1))

/-- The product a device forms for hop `s`: a chunk of its `x` times a half of its `w`. -/
def prod (d : Bool) (s : Fin 8) (c : Dev nD) : FVec F S128x512 .f32 :=
  prodV (xM.view.readAt (Elt F) (xRect c d s).toLoadRect (xstg m c)) (wM.view.readAt (Elt F) (wRect d).toLoadRect (wstg m c))

/-- A quarter of such a product. -/
def part (d : Bool) (j : Fin 4) (s : Fin 8) (c : Dev nD) : FVec F S32x512 .f32 :=
  extractStridedSlice S32x512 ![32 * j.val, 0] (prod m d s c) (sliceOk j)

/-- A quarter as it stands after `s` hops: what came from the device behind, plus this device's own product. -/
def acc (d : Bool) (j : Fin 4) : ℕ → Dev nD → FVec F S32x512 .f32
  | 0, c => part m d j 0 c
  | s + 1, c => addf (acc d j s (toDev (!d) c)) (part m d j (Fin.ofNat 8 (s + 1)) c)

/-! ## What each arrival hands over -/

/-- A landing place with something in it. -/
def slotAny (c : Dev nD) (p : Pc) : sProp 𝕄 :=
  iprop(∃ f, (slotM p.1 p.2.1 p.2.2).view.loc (c : Thread nD τ) ↦[(slotM p.1 p.2.1 p.2.2).view.set]{fullShare} f)
/-- The place a piece was sent from, with something in it. -/
def srcAny (c : Dev nD) (p : Pc) : sProp 𝕄 :=
  iprop(∃ f, (srcM p.1 p.2.1 p.2.2).view.loc (c : Thread nD τ) ↦[(srcM p.1 p.2.1 p.2.2).view.set]{fullShare} f)
/-- The barrier's signal from the device ahead: all its landing places of that direction. -/
def barPay (c : Dev nD) (d : Bool) : sProp 𝕄 :=
  bigSep Finset.univ fun q : Fin 7 × Fin 4 => slotAny (toDev d c) (d, q)
/-- A piece that landed. -/
def recvPay (c : Dev nD) (p : Pc) : sProp 𝕄 :=
  owns (c : Thread nD τ) (slotM p.1 p.2.1 p.2.2) fullShare (acc m p.1 p.2.2 p.2.1.val (toDev (!p.1) c))

omit [FloatOps F] in
instance slotAny_storable (c : Dev nD) (p : Pc) : BI.Storable (upEmb : UEmb _ 𝕄) (slotAny (F := F) c p) := by unfold slotAny; infer_instance
omit [FloatOps F] in
instance srcAny_storable (c : Dev nD) (p : Pc) : BI.Storable (upEmb : UEmb _ 𝕄) (srcAny (F := F) c p) := by unfold srcAny; infer_instance
omit [FloatOps F] in
instance barPay_storable (c : Dev nD) (d : Bool) : BI.Storable (upEmb : UEmb _ 𝕄) (barPay (F := F) c d) := by unfold barPay; infer_instance
instance recvPay_storable (c : Dev nD) (p : Pc) : BI.Storable (upEmb : UEmb _ 𝕄) (recvPay m c p) := by unfold recvPay; infer_instance

/-- Who pays into a cell: both neighbours into the barrier, one copy into any other. -/
def dutiesOf : Option CI → Finset Bool
  | some none => Finset.univ
  | some (some _) => {false}
  | none => ∅
/-- How much each pays. -/
def amountOf : Option CI → ℕ
  | some none => 1
  | _ => N
/-- What comes with each payment. -/
def payOf (c : Dev nD) (i : Option CI) (d : Bool) : sProp 𝕄 :=
  match i with
  | some none => barPay c d
  | some (some (true, p)) => recvPay m c p
  | some (some (false, p)) => srcAny c p
  | none => iprop(emp)

/-- Each payment is positive. -/
theorem amountOf_pos (i : Option CI) : 0 < amountOf i := by
  rcases i with _ | _ | _
  · exact N_pos
  · exact Nat.one_pos
  · exact N_pos

instance payOf_storable (c : Dev nD) (i : Option CI) (d : Bool) : BI.Storable (upEmb : UEmb _ 𝕄) (payOf m c i d) := by
  rcases i with _ | _ | ⟨_ | _, p⟩ <;> unfold payOf <;> infer_instance

/-- One round: the barrier takes a unit from either side, every other cell one transfer. -/
def Rd : Rounds.Schedule (GSem nD τ sig) Bool 𝕄 where
  duties g r := if r = 0 ∧ g.1.2 = .tc then dutiesOf (cls g.2) else ∅
  unitless _ := False
  amount g _ _ := amountOf (cls g.2)
  payload g _ d := payOf m g.1.1 (cls g.2) d
  amount_pos g _ _ _ := amountOf_pos _

instance Rd_payload_storable (g : GSem nD τ sig) (r : ℕ) (d : Bool) : BI.Storable (upEmb : UEmb _ 𝕄) ((Rd m).payload g r d) :=
  payOf_storable m g.1.1 (cls g.2) d

section Sched
variable (c : Dev nD) (p : Pc)

/-- Both neighbours pay into the barrier. -/
theorem duties_bar : (Rd m).duties (barCell c) 0 = Finset.univ := by
  dsimp only [Rd]; rw [if_pos ⟨rfl, rfl⟩, cls_bar]; rfl
/-- One copy pays into a send cell. -/
theorem duties_send : (Rd m).duties (sendCell c p) 0 = {false} := by
  dsimp only [Rd]; rw [if_pos ⟨rfl, rfl⟩, cls_send]; rfl
/-- One copy pays into a receive cell. -/
theorem duties_recv : (Rd m).duties (recvCell c p) 0 = {false} := by
  dsimp only [Rd]; rw [if_pos ⟨rfl, rfl⟩, cls_recv]; rfl
/-- Nobody pays a second time. -/
theorem duties_later (g : GSem nD τ sig) : ∀ r, 0 + 1 ≤ r → (Rd m).duties g r = ∅ :=
  fun r hr => by dsimp only [Rd]; exact if_neg fun h => by omega

/-- A neighbour pays one unit into the barrier. -/
theorem amount_bar (d : Bool) : (Rd m).amount (barCell c) 0 d = 1 := by dsimp only [Rd]; rw [cls_bar]; rfl
/-- A copy pays its whole count into its send cell. -/
theorem amount_send (d : Bool) : (Rd m).amount (sendCell c p) 0 d = N := by dsimp only [Rd]; rw [cls_send]; rfl
/-- A copy pays its whole count into its receive cell. -/
theorem amount_recv (d : Bool) : (Rd m).amount (recvCell c p) 0 d = N := by dsimp only [Rd]; rw [cls_recv]; rfl

/-- The barrier is to receive two units. -/
theorem expect_bar : (Rd m).expect (barCell c) 0 = 2 := by
  unfold Schedule.expect Schedule.amountOf; rw [duties_bar, Finset.sum_congr rfl fun d _ => amount_bar m c d]; rfl
/-- A send cell is to receive one piece's count. -/
theorem expect_send : (Rd m).expect (sendCell c p) 0 = N := by
  unfold Schedule.expect Schedule.amountOf; rw [duties_send, Finset.sum_singleton, amount_send]
/-- A receive cell is to receive one piece's count. -/
theorem expect_recv : (Rd m).expect (recvCell c p) 0 = N := by
  unfold Schedule.expect Schedule.amountOf; rw [duties_recv, Finset.sum_singleton, amount_recv]

/-- A neighbour's signal brings its landing places. -/
theorem payload_bar (d : Bool) : (Rd m).payload (barCell c) 0 d = barPay c d := by dsimp only [Rd]; rw [cls_bar]; rfl
/-- A send cell's payment gives the source back. -/
theorem payload_send (d : Bool) : (Rd m).payload (sendCell c p) 0 d = srcAny c p := by dsimp only [Rd]; rw [cls_send]; rfl
/-- A receive cell's payment brings the piece that landed. -/
theorem payload_recv (d : Bool) : (Rd m).payload (recvCell c p) 0 d = recvPay m c p := by dsimp only [Rd]; rw [cls_recv]; rfl

/-- Both signals together bring every landing place ahead of the device. -/
theorem rest_bar : bigSep ((Rd m).duties (barCell c) 0 \ ∅) (fun d => (Rd m).payload (barCell c) 0 d)
    = bigSep Finset.univ fun p : Pc => slotAny (toDev p.1 c) p := by
  rw [Finset.sdiff_empty, duties_bar, bigSep_univ_prod]
  exact bigSep_congr fun d _ => payload_bar m c d
/-- All that a send cell brings is the source. -/
theorem rest_send : bigSep ((Rd m).duties (sendCell c p) 0 \ ∅) (fun d => (Rd m).payload (sendCell c p) 0 d) = srcAny c p := by
  rw [Finset.sdiff_empty, duties_send, bigSep_singleton, payload_send]
/-- All that a receive cell brings is the piece. -/
theorem rest_recv : bigSep ((Rd m).duties (recvCell c p) 0 \ ∅) (fun d => (Rd m).payload (recvCell c p) 0 d) = recvPay m c p := by
  rw [Finset.sdiff_empty, duties_recv, bigSep_singleton, payload_recv]

end Sched

/-! ## What a device owes, and the order of the cells -/

/-- The pieces from the `n`-th on are still to be sent. -/
def owedFrom (c : Dev nD) (n : ℕ) : CellTallies nD τ sig Unit :=
  ∑ p ∈ Finset.univ.filter fun p => n ≤ ord p, tallyAt (recvCell (toDev p.1 c) p) () N

/-- What is owed before a piece is sent is what is owed after it, and that piece. -/
theorem owedFrom_step (c : Dev nD) (p : Pc) :
    owedFrom c (ord p) = owedFrom c (ord p + 1) + tallyAt (recvCell (toDev p.1 c) p) () N := by
  unfold owedFrom
  have h : (Finset.univ.filter fun q => ord p ≤ ord q) = insert p (Finset.univ.filter fun q => ord p + 1 ≤ ord q) := by
    ext q
    simp only [Finset.mem_filter, Finset.mem_univ, true_and, Finset.mem_insert]
    constructor
    · intro h
      rcases Nat.lt_or_eq_of_le h with h | h
      · exact .inr h
      · exact .inl (ord_inj h).symm
    · rintro (rfl | h)
      · exact le_refl _
      · omega
  rw [h, Finset.sum_insert (by simp), add_comm]

/-- After the last piece nothing is owed. -/
theorem owedFrom_end (c : Dev nD) {n : ℕ} (hn : 56 ≤ n) : owedFrom c n = 0 := by
  unfold owedFrom
  rw [Finset.filter_false_of_mem fun p _ => by have := ord_lt p; omega]
  rfl

/-- At the start it owes all its pieces and a signal to either neighbour. -/
def O₀ (c : Dev nD) : CellTallies nD τ sig Unit :=
  owedFrom c 0 + tallyAt (barCell (toDev false c)) () 1 + tallyAt (barCell (toDev true c)) () 1

/-- The cells of the cores that run the program carry a level. -/
def L (g : GSem nD τ sig) : Finset Unit := if g.1.2 = .tc then {()} else ∅
/-- The level of a cell: departures lowest, then the barrier, then the arrivals hop by hop. -/
def lvOf : Option CI → ℕ
  | some none => 1
  | some (some (true, p)) => p.2.1.val + 2
  | _ => 0
/-- The barrier first, then the arrivals hop by hop. -/
def lv (g : GSem nD τ sig) (_ : Unit) : ℕ := lvOf (cls g.2)

/-- No other cell carries a level. -/
theorem L_of_ne (g : GSem nD τ sig) (h : g.1.2 ≠ .tc) : L g = ∅ := if_neg h
/-- Each cell of such a core carries one. -/
theorem L_tc (c : Dev nD) (sm : SemLoc sig) : L ((c : Thread nD τ), sm) = {()} := if_pos rfl
/-- The barrier's level is one. -/
theorem lv_bar (c : Dev nD) (u : Unit) : lv (barCell c) u = 1 := by unfold lv; rw [cls_bar]; rfl
/-- The level of an arrival grows with its hop. -/
theorem lv_recv (c : Dev nD) (p : Pc) (u : Unit) : lv (recvCell c p) u = p.2.1.val + 2 := by unfold lv; rw [cls_recv]; rfl

/-- A debt to one cell is to that cell only. -/
theorem tally_pos {g g' : GSem nD τ sig} {u u' : Unit} {k : ℕ} (h : 0 < tallyAt g' u' k g u) : g = g' := by
  rw [tallyAt_apply] at h
  by_contra hn
  rw [if_neg fun h' => hn h'.1] at h
  exact Nat.lt_irrefl 0 h

/-- What is still owed for copies is owed for pieces not yet sent. -/
theorem owedFrom_pos {c : Dev nD} {n : ℕ} {g : GSem nD τ sig} {u : Unit} (h : 0 < owedFrom c n g u) :
    ∃ p, n ≤ ord p ∧ g = recvCell (toDev p.1 c) p := by
  unfold owedFrom at h
  rw [Finset.sum_apply, Finsupp.finset_sum_apply] at h
  obtain ⟨p, hp, hpos⟩ := Finset.exists_ne_zero_of_sum_ne_zero (Nat.pos_iff_ne_zero.mp h)
  exact ⟨p, (Finset.mem_filter.mp hp).2, tally_pos (Nat.pos_iff_ne_zero.mpr hpos)⟩

/-- At the start a device owes its copies and its two signals, and nothing else. -/
theorem O₀_pos {c : Dev nD} {g : GSem nD τ sig} {u : Unit} (h : 0 < O₀ c g u) :
    (∃ p, g = recvCell (toDev p.1 c) p) ∨ ∃ d, g = barCell (toDev d c) := by
  unfold O₀ at h
  rw [Pi.add_apply, Finsupp.add_apply, Pi.add_apply, Finsupp.add_apply] at h
  by_cases h1 : 0 < owedFrom c 0 g u
  · obtain ⟨p, -, hp⟩ := owedFrom_pos h1
    exact .inl ⟨p, hp⟩
  by_cases h2 : 0 < tallyAt (barCell (toDev false c)) () 1 g u
  · exact .inr ⟨false, tally_pos h2⟩
  · rw [Nat.eq_zero_of_not_pos h1, Nat.eq_zero_of_not_pos h2, Nat.zero_add] at h
    exact .inr ⟨true, tally_pos h⟩

omit [FloatOps F] in
/-- A wait below everything still owed may be entered. -/
theorem may_wait (c : Dev nD) (sm : SemLoc sig) (b : ℕ) (O : CellTallies nD τ sig Unit) (hb : lvOf (cls sm) ≤ b)
    (hO : ∀ g u, 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

omit [FloatOps F] in
/-- A device may wait for the pipeline's own transfers, at the start and at the end. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine may_wait c _ 0 _ (by rw [cls_stage q hq]; exact le_refl _) fun g u hg => ?_
    rcases O₀_pos hg with ⟨p, rfl⟩ | ⟨d, rfl⟩
    · rw [lv_recv]; exact ⟨rfl, by omega⟩
    · rw [lv_bar]; exact ⟨rfl, by omega⟩
  · rw [MayWait_zero]; iintro -; iempintro

omit [FloatOps F] in
/-- It may wait at the barrier, once it has signalled. -/
theorem mayWait_bar (c : Dev nD) : (levAts L lv : sProp 𝕄) ⊢ MayWait (c : Thread nD τ) (.reg barA.sem) () (owedFrom c 0) :=
  may_wait c _ 1 _ (by rw [cls_bar]; exact le_refl _) fun g u hg => by
    obtain ⟨p, -, rfl⟩ := owedFrom_pos hg
    rw [lv_recv]; exact ⟨rfl, by omega⟩

omit [FloatOps F] in
/-- A piece is waited for when only later hops are still owed. -/
theorem mayWait_recv (c : Dev nD) (p : Pc) :
    (levAts L lv : sProp 𝕄) ⊢ MayWait (c : Thread nD τ) (.dma (recvSem p.1 p.2.1 p.2.2)) () (owedFrom c (ord p + 8)) :=
  may_wait c _ (p.2.1.val + 2) _ (by rw [cls_recv]; exact le_refl _) fun g u hg => by
    obtain ⟨q, hq, rfl⟩ := owedFrom_pos hg
    rw [lv_recv]
    refine ⟨rfl, ?_⟩
    obtain ⟨d, s, j⟩ := p; obtain ⟨d', s', j'⟩ := q
    have hj := j.isLt; have hj' := j'.isLt
    cases d <;> cases d' <;> simp only [ord, cond_true, cond_false] at hq ⊢ <;> omega

end Cert.RingSum

end
-- ==== Proof.Buffers.lean ====
/-
# Buffers cut into pieces

A landing buffer is twenty-eight landing places, a seed buffer four quarters, and the result eight
rectangles. This module cuts the buffers, glues them again, and says what a load or a store of one
piece reads and leaves.
-/
module

public import proofs.«01_k».proof.Proof.Schedule
public import Idealize.ShloMosaic.Lib.Ring
public import Idealize.ShloMosaic.Lib.Pipeline.Value

@[expose] public section

set_option maxRecDepth 16384

noncomputable section

namespace Cert.RingSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Landing places -/

/-- A landing place, as a slice and as a rectangle, is the same elements. -/
theorem slot_set (d : Bool) (s : Fin 7) (j : Fin 4) :
    (slotM d s j).view.set = ((landM d).access (slotRect s j)).set := View.set_reshape _ _

/-- The elements of a landing place. -/
abbrev slotI (q : Fin 7 × Fin 4) : Finset (S7x128x512).Idx := (slotRect q.1 q.2).set

/-- Landing places do not meet. -/
theorem slotI_disjoint (q q' : Fin 7 × Fin 4) (h : q ≠ q') : Disjoint (slotI q) (slotI q') := by
  obtain ⟨s, j⟩ := q; obtain ⟨s', j'⟩ := q'
  by_cases hs : s = s'
  · have hj : j.val ≠ j'.val := fun e => h (by rw [hs, Fin.ext e])
    refine Rect.unit_disjoint 1 ?_
    show 32 * j.val + 32 ≤ 32 * j'.val ∨ 32 * j'.val + 32 ≤ 32 * j.val
    omega
  · have hs : s.val ≠ s'.val := fun e => hs (Fin.ext e)
    refine Rect.unit_disjoint 0 ?_
    show s.val + 1 ≤ s'.val ∨ s'.val + 1 ≤ s.val
    omega

/-- Landing places make up the whole buffer. -/
theorem slotI_cover : Finset.univ.biUnion slotI = Finset.univ := by
  refine Finset.eq_univ_of_forall fun i => Finset.mem_biUnion.mpr ?_
  have h0 : (i 0).val < 7 := (i 0).isLt
  have h1 : (i 1).val < 128 := (i 1).isLt
  have h2 : (i 2).val < 512 := (i 2).isLt
  refine ⟨(⟨(i 0).val, h0⟩, ⟨(i 1).val / 32, by omega⟩), Finset.mem_univ _, Rect.mem_set_unit.mpr fun a => ?_⟩
  fin_cases a
  · exact ⟨Nat.le_refl _, Nat.lt_succ_self _⟩
  · show 32 * ((i 1).val / 32) ≤ (i 1).val ∧ (i 1).val < 32 * ((i 1).val / 32) + 32
    omega
  · show 0 ≤ (i 2).val ∧ (i 2).val < 0 + 512
    omega

omit [FloatOps F] in
/-- A landing place, by the elements it is of its buffer. -/
theorem slot_false (c : Dev nD) (s : Fin 7) (j : Fin 4) (f : Buf (Elt F) ((c : Thread nD τ).loc cc0_scratch2)) :
    ((slotM false s j).view.loc (c : Thread nD τ) ↦[(slotM false s j).view.set]{fullShare} f : sProp 𝕄)
      = (((c : Thread nD τ).loc cc0_scratch2) ↦[slotI (s, j)]{fullShare} f) :=
  congrArg (fun S => (((c : Thread nD τ).loc cc0_scratch2) ↦[S]{fullShare} f : sProp 𝕄)) ((View.set_reshape _ _).trans (View.set_slice_whole cc0_scratch2 (slotRect s j)))
omit [FloatOps F] in
/-- The same for the other direction. -/
theorem slot_true (c : Dev nD) (s : Fin 7) (j : Fin 4) (f : Buf (Elt F) ((c : Thread nD τ).loc cc0_scratch3)) :
    ((slotM true s j).view.loc (c : Thread nD τ) ↦[(slotM true s j).view.set]{fullShare} f : sProp 𝕄)
      = (((c : Thread nD τ).loc cc0_scratch3) ↦[slotI (s, j)]{fullShare} f) :=
  congrArg (fun S => (((c : Thread nD τ).loc cc0_scratch3) ↦[S]{fullShare} f : sProp 𝕄)) ((View.set_reshape _ _).trans (View.set_slice_whole cc0_scratch3 (slotRect s j)))

omit [FloatOps F] in
/-- A landing place with something in it, as part of its buffer. -/
theorem slotAny_false (c : Dev nD) (q : Fin 7 × Fin 4) :
    (slotAny c (false, q) : sProp 𝕄) = iprop(∃ f : Buf (Elt F) ((c : Thread nD τ).loc cc0_scratch2), ((c : Thread nD τ).loc cc0_scratch2) ↦[slotI q]{fullShare} f) :=
  congrArg (fun Φ : Buf (Elt F) ((c : Thread nD τ).loc cc0_scratch2) → sProp 𝕄 => iprop(∃ f, Φ f)) (funext fun f => slot_false c q.1 q.2 f)
omit [FloatOps F] in
/-- The same for the other direction. -/
theorem slotAny_true (c : Dev nD) (q : Fin 7 × Fin 4) :
    (slotAny c (true, q) : sProp 𝕄) = iprop(∃ f : Buf (Elt F) ((c : Thread nD τ).loc cc0_scratch3), ((c : Thread nD τ).loc cc0_scratch3) ↦[slotI q]{fullShare} f) :=
  congrArg (fun Φ : Buf (Elt F) ((c : Thread nD τ).loc cc0_scratch3) → sProp 𝕄 => iprop(∃ f, Φ f)) (funext fun f => slot_true c q.1 q.2 f)

omit [FloatOps F] in
/-- Part of the buffer is a landing place with something in it. -/
theorem slotAny_intro_false (c : Dev nD) (q : Fin 7 × Fin 4) (f : Buf (Elt F) ((c : Thread nD τ).loc cc0_scratch2)) :
    (((c : Thread nD τ).loc cc0_scratch2) ↦[slotI q]{fullShare} f : sProp 𝕄) ⊢ slotAny c (false, q) := by
  rw [slotAny_false]; iintro H; iexists f; iexact H
omit [FloatOps F] in
/-- The same for the other direction. -/
theorem slotAny_intro_true (c : Dev nD) (q : Fin 7 × Fin 4) (f : Buf (Elt F) ((c : Thread nD τ).loc cc0_scratch3)) :
    (((c : Thread nD τ).loc cc0_scratch3) ↦[slotI q]{fullShare} f : sProp 𝕄) ⊢ slotAny c (true, q) := by
  rw [slotAny_true]; iintro H; iexists f; iexact H

/-- A landing buffer with something in it. -/
def landAny (c : Dev nD) (d : Bool) : sProp 𝕄 :=
  iprop(∃ f : Buf (Elt F) ((landM d).view.loc (c : Thread nD τ)), (landM d).view.loc (c : Thread nD τ) ↦{fullShare} f)

omit [FloatOps F] in
/-- A landing buffer is its landing places. -/
theorem land_split (c : Dev nD) (d : Bool) :
    (landAny c d : sProp 𝕄) ⊢ bigSep Finset.univ fun q : Fin 7 × Fin 4 => slotAny c (d, q) := by
  unfold landAny
  cases d
  · iintro ⟨%f, H⟩
    iapply ((Entails.of_eq (Ring.pointsTo_blocks (ℓ := (c : Thread nD τ).loc cc0_scratch2) slotI slotI_disjoint slotI_cover f)).trans
      (bigSep_mono fun q _ => slotAny_intro_false c q f)) $$ H
  · iintro ⟨%f, H⟩
    iapply ((Entails.of_eq (Ring.pointsTo_blocks (ℓ := (c : Thread nD τ).loc cc0_scratch3) slotI slotI_disjoint slotI_cover f)).trans
      (bigSep_mono fun q _ => slotAny_intro_true c q f)) $$ H

omit [FloatOps F] in
/-- All landing places together are the buffer again. -/
theorem land_join (c : Dev nD) (d : Bool) [Inhabited (Elt F .f32)] :
    (bigSep Finset.univ fun q : Fin 7 × Fin 4 => (slotAny c (d, q) : sProp 𝕄)) ⊢ landAny c d := by
  cases d
  · exact (Entails.of_eq (bigSep_congr fun q _ => slotAny_false c q)).trans
      (Ring.pointsTo_blocks_join_exists (ℓ := (c : Thread nD τ).loc cc0_scratch2) slotI slotI_disjoint slotI_cover (fun _ => (default : Elt F .f32)))
  · exact (Entails.of_eq (bigSep_congr fun q _ => slotAny_true c q)).trans
      (Ring.pointsTo_blocks_join_exists (ℓ := (c : Thread nD τ).loc cc0_scratch3) slotI slotI_disjoint slotI_cover (fun _ => (default : Elt F .f32)))

/-! ## Seeds -/

/-- The elements of a quarter of a first product. -/
abbrev seedI (j : Fin 4) : Finset (S128x512).Idx := (seedRect j).set

/-- Quarters of a first product do not meet. -/
theorem seedI_disjoint (j j' : Fin 4) (h : j ≠ j') : Disjoint (seedI j) (seedI j') := by
  have hj : j.val ≠ j'.val := fun e => h (Fin.ext e)
  refine Rect.unit_disjoint 0 ?_
  show 32 * j.val + 32 ≤ 32 * j'.val ∨ 32 * j'.val + 32 ≤ 32 * j.val
  omega

/-- Quarters of a first product make up the buffer. -/
theorem seedI_cover : Finset.univ.biUnion seedI = Finset.univ := by
  refine Finset.eq_univ_of_forall fun i => Finset.mem_biUnion.mpr ?_
  have h0 : (i 0).val < 128 := (i 0).isLt
  have h1 : (i 1).val < 512 := (i 1).isLt
  refine ⟨⟨(i 0).val / 32, by omega⟩, Finset.mem_univ _, Rect.mem_set_unit.mpr fun a => ?_⟩
  fin_cases a
  · show 32 * ((i 0).val / 32) ≤ (i 0).val ∧ (i 0).val < 32 * ((i 0).val / 32) + 32
    omega
  · show 0 ≤ (i 1).val ∧ (i 1).val < 0 + 512
    omega

/-- A seed buffer with something in it. -/
def seedAny (c : Dev nD) (d : Bool) : sProp 𝕄 :=
  iprop(∃ f : Buf (Elt F) ((seedM d).view.loc (c : Thread nD τ)), (seedM d).view.loc (c : Thread nD τ) ↦{fullShare} f)

/-- On the first hop a piece is sent from the first product. -/
theorem srcM_zero (d : Bool) (j : Fin 4) : srcM d 0 j = (seedM d).slice (seedRect j) (fun _ => rfl) := rfl

omit [FloatOps F] in
/-- A quarter of a first product, as part of its buffer. -/
theorem seed_false (c : Dev nD) (j : Fin 4) (f : Buf (Elt F) ((c : Thread nD τ).loc cc0_scratch0)) :
    ((srcM false 0 j).view.loc (c : Thread nD τ) ↦[(srcM false 0 j).view.set]{fullShare} f : sProp 𝕄)
      = (((c : Thread nD τ).loc cc0_scratch0) ↦[seedI j]{fullShare} f) := by
  show (_ ↦[((View.whole cc0_scratch0).slice (seedRect j)).set]{fullShare} f) = _
  rw [View.set_slice_whole]
omit [FloatOps F] in
/-- The same for the other direction. -/
theorem seed_true (c : Dev nD) (j : Fin 4) (f : Buf (Elt F) ((c : Thread nD τ).loc cc0_scratch1)) :
    ((srcM true 0 j).view.loc (c : Thread nD τ) ↦[(srcM true 0 j).view.set]{fullShare} f : sProp 𝕄)
      = (((c : Thread nD τ).loc cc0_scratch1) ↦[seedI j]{fullShare} f) := by
  show (_ ↦[((View.whole cc0_scratch1).slice (seedRect j)).set]{fullShare} f) = _
  rw [View.set_slice_whole]

omit [FloatOps F] in
/-- A quarter with something in it, as part of its buffer. -/
theorem srcAny_false (c : Dev nD) (j : Fin 4) :
    (srcAny c (false, 0, j) : sProp 𝕄) = iprop(∃ f : Buf (Elt F) ((c : Thread nD τ).loc cc0_scratch0), ((c : Thread nD τ).loc cc0_scratch0) ↦[seedI j]{fullShare} f) :=
  congrArg (fun Φ : Buf (Elt F) ((c : Thread nD τ).loc cc0_scratch0) → sProp 𝕄 => iprop(∃ f, Φ f)) (funext fun f => seed_false c j f)
omit [FloatOps F] in
/-- The same for the other direction. -/
theorem srcAny_true (c : Dev nD) (j : Fin 4) :
    (srcAny c (true, 0, j) : sProp 𝕄) = iprop(∃ f : Buf (Elt F) ((c : Thread nD τ).loc cc0_scratch1), ((c : Thread nD τ).loc cc0_scratch1) ↦[seedI j]{fullShare} f) :=
  congrArg (fun Φ : Buf (Elt F) ((c : Thread nD τ).loc cc0_scratch1) → sProp 𝕄 => iprop(∃ f, Φ f)) (funext fun f => seed_true c j f)

omit [FloatOps F] in
/-- All quarters together are the buffer again. -/
theorem seed_join (c : Dev nD) (d : Bool) [Inhabited (Elt F .f32)] :
    (bigSep Finset.univ fun j : Fin 4 => (srcAny c (d, 0, j) : sProp 𝕄)) ⊢ seedAny c d := by
  cases d
  · exact (Entails.of_eq (bigSep_congr fun j _ => srcAny_false c j)).trans
      (Ring.pointsTo_blocks_join_exists (ℓ := (c : Thread nD τ).loc cc0_scratch0) seedI seedI_disjoint seedI_cover (fun _ => (default : Elt F .f32)))
  · exact (Entails.of_eq (bigSep_congr fun j _ => srcAny_true c j)).trans
      (Ring.pointsTo_blocks_join_exists (ℓ := (c : Thread nD τ).loc cc0_scratch1) seedI seedI_disjoint seedI_cover (fun _ => (default : Elt F .f32)))

omit [FloatOps F] in
/-- A quarter of a seed buffer is the same quarter of what the buffer holds. -/
theorem seed_read (d : Bool) (j : Fin 4) (f : (seedM d).view.ty.Contents (Elt F)) :
    (srcM d 0 j).view.read (Elt F) f = extractStridedSlice S32x512 ![32 * j.val, 0] ((seedM d).view.read (Elt F) f) (sliceOk j) := by
  cases d <;>
  · funext i
    refine congrArg f (funext fun a => Fin.ext ?_)
    fin_cases a
    · show 32 * j.val + 1 * (i 0).val = 32 * j.val + (i 0).val; omega
    · show 0 + 1 * (i 1).val = 0 + (i 1).val; omega

omit [FloatOps F] in
/-- Holding the elements of a view that reads as `w` is owning the view with `w` in it. -/
theorem owns_intro (c : Dev nD) {s : Shape} (M : Memref sig .tc .vmem s .f32) (f : Buf (Elt F) (M.view.loc (c : Thread nD τ))) (w : Vec F s .f32)
    (h : M.view.read (Elt F) f = w) :
    (M.view.loc (c : Thread nD τ) ↦[M.view.set]{fullShare} f : sProp 𝕄) ⊢ owns (c : Thread nD τ) M fullShare w := by
  unfold owns
  iintro H
  iexists f
  isplitr; · ipureintro; exact h
  iexact H

omit [FloatOps F] in
/-- A seed buffer that holds `w` is its four quarters of `w`. -/
theorem seed_split (c : Dev nD) (d : Bool) (w : Vec F S128x512 .f32) (f : Buf (Elt F) ((seedM d).view.loc (c : Thread nD τ)))
    (hf : (seedM d).view.read (Elt F) f = w) :
    ((seedM d).view.loc (c : Thread nD τ) ↦{fullShare} f : sProp 𝕄)
      ⊢ bigSep Finset.univ fun j : Fin 4 => owns (c : Thread nD τ) (srcM d 0 j) fullShare (extractStridedSlice S32x512 ![32 * j.val, 0] w (sliceOk j)) := by
  subst hf
  cases d
  · exact (Entails.of_eq (Ring.pointsTo_blocks (ℓ := (c : Thread nD τ).loc cc0_scratch0) seedI seedI_disjoint seedI_cover f)).trans
      (bigSep_mono fun j _ => (Entails.of_eq (seed_false c j f).symm).trans (owns_intro c (srcM false 0 j) f _ (seed_read false j f)))
  · exact (Entails.of_eq (Ring.pointsTo_blocks (ℓ := (c : Thread nD τ).loc cc0_scratch1) seedI seedI_disjoint seedI_cover f)).trans
      (bigSep_mono fun j _ => (Entails.of_eq (seed_true c j f).symm).trans (owns_intro c (srcM true 0 j) f _ (seed_read true j f)))

/-! ## What is read and what is left -/

/-- A load of a landing place, its hop axis dropped, is what the place holds. -/
theorem slot_read (d : Bool) (s : Fin 7) (j : Fin 4) (f : (landM d).view.ty.Contents (Elt F)) :
    shapeCast S32x512 ((landM d).view.readAt (Elt F) (slotRect s j).toLoadRect f) shapeCasts_S1x32x512_S32x512
      = (slotM d s j).view.read (Elt F) f := rfl

/-- A landing place overwritten holds what was written. -/
theorem slot_write (d : Bool) (s : Fin 7) (j : Fin 4) (f : (landM d).view.ty.Contents (Elt F)) (y : Vec F S32x512 .f32) :
    (slotM d s j).view.read (Elt F) (((landM d).access (slotRect s j)).write (Elt F) f (shapeCast S1x32x512 y shapeCasts_S32x512_S1x32x512) Finset.univ) = y := by
  rw [← slot_read, View.readAt_rect]
  refine (congrArg (fun v => shapeCast S32x512 v shapeCasts_S1x32x512_S32x512) (View.read_write_univ _ _)).trans ?_
  exact shapeCast_shapeCast y _ _

/-- A seed buffer overwritten holds what was written. -/
theorem seed_write (d : Bool) (f : (seedM d).view.ty.Contents (Elt F)) (y : Vec F S128x512 .f32) :
    (seedM d).view.read (Elt F) (((seedM d).access wholeRect).write (Elt F) f y Finset.univ) = y := by
  have hz : (![0, 0] : Fin 2 → Nat) = fun _ => 0 := funext fun a => by fin_cases a <;> rfl
  cases d
  · exact (View.read_whole _ _).trans (Memref.write_access_unit_zero_univ (Elt F) cc0_scratch0 hz _ f y)
  · exact (View.read_whole _ _).trans (Memref.write_access_unit_zero_univ (Elt F) cc0_scratch1 hz _ f y)

/-! ## The result -/

/-- The result's first `n` rectangles hold their sums. -/
def OutOk (c : Dev nD) (n : ℕ) (f : (cc0_stg2_0 : Ref sig .tc).ty.Contents (Elt F)) : Prop :=
  ∀ (d : Bool) (j : Fin 4), 2 * j.val + cond d 1 0 < n → (oM.access (outRect d j)).read (Elt F) f = acc m d j 7 c

/-- Before the first rectangle is stored there is nothing to say of the result. -/
theorem out_zero (c : Dev nD) (f : (cc0_stg2_0 : Ref sig .tc).ty.Contents (Elt F)) : OutOk m c 0 f :=
  fun _ _ h => absurd h (Nat.not_lt_zero _)

/-- Writing the next rectangle. -/
theorem out_step (c : Dev nD) {n : ℕ} {f : (cc0_stg2_0 : Ref sig .tc).ty.Contents (Elt F)} (h : OutOk m c n f) (d : Bool) (j : Fin 4)
    (hn : 2 * j.val + cond d 1 0 = n) :
    OutOk m c (n + 1) ((oM.access (outRect d j)).write (Elt F) f (acc m d j 7 c) Finset.univ) := by
  intro d' j' hlt
  by_cases he : 2 * j'.val + cond d' 1 0 = n
  · have hb := hn.trans he.symm
    have hdj : d' = d ∧ j' = j := by
      have h1 := j.isLt; have h2 := j'.isLt
      cases d <;> cases d' <;> simp only [cond_true, cond_false] at hb <;>
        first
        | exact ⟨rfl, Fin.ext (by omega)⟩
        | (exfalso; omega)
    obtain ⟨rfl, rfl⟩ := hdj
    exact View.read_write_univ _ _
  · rw [← h d' j' (by omega)]
    refine View.read_slice_write_slice_of_disjoint (v := oM.view) (outRect d' j') (outRect d j) f _ _ ?_
    by_cases hd : d' = d
    · subst hd
      refine View.disjoint_slice_of_sep _ _ _ 0 rfl rfl ?_
      show 32 * j'.val + 32 ≤ 32 * j.val ∨ 32 * j.val + 32 ≤ 32 * j'.val
      omega
    · refine View.disjoint_slice_of_sep _ _ _ 1 rfl rfl ?_
      cases d <;> cases d'
      · exact absurd rfl hd
      · exact .inr (Nat.le_refl 512)
      · exact .inl (Nat.le_refl 512)
      · exact absurd rfl hd

/-- The index of a rectangle that an element of the result is at. -/
def outIdx (i : S128x1024.Idx) : S32x512.Idx := fun
  | 0 => ⟨(i 0).val % 32, Nat.mod_lt _ (by decide)⟩
  | 1 => ⟨(i 1).val % 512, Nat.mod_lt _ (by decide)⟩
/-- The rectangle it is in. -/
def outDir (i : S128x1024.Idx) : Bool := decide (512 ≤ (i 1).val)
/-- The quarter it is in. -/
def outQ (i : S128x1024.Idx) : Fin 4 := ⟨(i 0).val / 32, by have : (i 0).val < 128 := (i 0).isLt; omega⟩

/-- A device's block of the result. -/
def outAt (c : Dev nD) : (cc0_stg2_0 : Ref sig .tc).ty.Contents (Elt F) := fun i => acc m (outDir i) (outQ i) 7 c (outIdx i)

/-- Once all eight rectangles are stored the result is what it should be. -/
theorem out_end (c : Dev nD) {f : (cc0_stg2_0 : Ref sig .tc).ty.Contents (Elt F)} (h : OutOk m c 8 f) : f = outAt m c := by
  funext i
  have hq := (outQ i).isLt
  have h := congrFun (h (outDir i) (outQ i) (by cases outDir i <;> simp only [cond_true, cond_false] <;> omega)) (outIdx i)
  refine Eq.trans (congrArg f (funext fun a => Fin.ext ?_)) h
  have h1 : (i 1).val < 1024 := (i 1).isLt
  fin_cases a
  · show (i 0).val = 32 * ((i 0).val / 32) + 1 * ((i 0).val % 32)
    omega
  · show (i 1).val = colOff (outDir i) + 1 * ((i 1).val % 512)
    by_cases hd : 512 ≤ (i 1).val
    · rw [show outDir i = true from decide_eq_true hd]; show _ = 512 + _; omega
    · rw [show outDir i = false from decide_eq_false hd]; show _ = 0 + _; omega

end Cert.RingSum

end
-- ==== Proof.Steps.lean ====
/-
# One piece at a time

What sending a piece, waiting for a piece, adding to it and taking a sent piece back do to a
device's share of the protocol. Every rule is for any direction, any hop and any quarter.
-/
module

public import proofs.«01_k».proof.Proof.Buffers

@[expose] public section

set_option maxRecDepth 16384

noncomputable section

namespace Cert.RingSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The body has no loops to measure. -/
abbrev 𝒱₀ : Variants := Variants.none

/-- The rest of the program runs to `Q` on device `c`. -/
abbrev runs (c : Dev nD) (k : P F) (Q : PUnit → sProp 𝕄) : sProp 𝕄 :=
  wp frame (wpE (defs₀ (F := F)) 𝒱₀ (c : Thread nD τ) none) Set.univ k Q

/-! ## What every device knows -/

/-- What every device knows throughout: the rules of all cells, and their levels. -/
def ctx (K : Dev nD × CI → ℕ) : sProp 𝕄 :=
  iprop((bigSep Finset.univ fun ck : Dev nD × CI => cellInv ER (Rd m) (K ck) (kcell ck))
    ∗ (bigSep Finset.univ fun ck : Dev nD × CI => reached ER (kcell ck) 0) ∗ levAts L lv)
instance ctx_persistent (K : Dev nD × CI → ℕ) : BI.Persistent (ctx m K) := by unfold ctx; infer_instance

variable (K : Dev nD × CI → ℕ)

/-- So it knows the rule of any one cell, -/
theorem ctx_inv (ck : Dev nD × CI) : ctx m K ⊢ cellInv ER (Rd m) (K ck) (kcell ck) := by
  have h : (bigSep Finset.univ fun ck : Dev nD × CI => (cellInv ER (Rd m) (K ck) (kcell ck) : sProp 𝕄)) ⊢ cellInv ER (Rd m) (K ck) (kcell ck) :=
    bigSep_elim (Finset.mem_univ ck)
  unfold ctx
  iintro ⟨H, -, -⟩
  iapply h $$ H
/-- that the cell has begun, -/
theorem ctx_reached (ck : Dev nD × CI) : ctx m K ⊢ (reached ER (kcell ck) 0 : sProp 𝕄) := by
  have h : (bigSep Finset.univ fun ck : Dev nD × CI => (reached ER (kcell ck) 0 : sProp 𝕄)) ⊢ reached ER (kcell ck) 0 :=
    bigSep_elim (Finset.mem_univ ck)
  unfold ctx
  iintro ⟨-, H, -⟩
  iapply h $$ H
/-- and the levels of all. -/
theorem ctx_lev : ctx m K ⊢ (levAts L lv : sProp 𝕄) := by
  unfold ctx
  iintro ⟨-, -, H⟩
  iexact H

/-- It knows the rule of a barrier cell, -/
theorem ctx_bar (c : Dev nD) : ctx m K ⊢ cellInv ER (Rd m) (K (c, none)) (barCell c) := ctx_inv m K (c, none)
/-- of a send cell, -/
theorem ctx_send (c : Dev nD) (p : Pc) : ctx m K ⊢ cellInv ER (Rd m) (K (c, some (false, p))) (sendCell c p) := ctx_inv m K (c, some (false, p))
/-- and of a receive cell. -/
theorem ctx_recv (c : Dev nD) (p : Pc) : ctx m K ⊢ cellInv ER (Rd m) (K (c, some (true, p))) (recvCell c p) := ctx_inv m K (c, some (true, p))
/-- A barrier cell has begun. -/
theorem reached_bar (c : Dev nD) : ctx m K ⊢ (reached ER (barCell c) 0 : sProp 𝕄) := ctx_reached m K (c, none)
/-- A send cell has begun. -/
theorem reached_send (c : Dev nD) (p : Pc) : ctx m K ⊢ (reached ER (sendCell c p) 0 : sProp 𝕄) := ctx_reached m K (c, some (false, p))
/-- A receive cell has begun. -/
theorem reached_recv (c : Dev nD) (p : Pc) : ctx m K ⊢ (reached ER (recvCell c p) 0 : sProp 𝕄) := ctx_reached m K (c, some (true, p))

/-! ## The states of a piece -/

/-- A piece not yet sent: the right to send it, and the place ahead that it lands in. -/
def unsent (c : Dev nD) (p : Pc) : sProp 𝕄 :=
  iprop(dutyTok ER (sendCell c p) 0 false ∗ dutyTok ER (recvCell (toDev p.1 c) p) 0 false ∗ atPos ER (sendCell c p) 0 ∅ 0 ∗ slotAny (toDev p.1 c) p)
/-- A piece sent, not yet taken back. -/
def sent (c : Dev nD) (p : Pc) : sProp 𝕄 := iprop(cred (tallyAt (sendCell c p) () N) ∗ atPos ER (sendCell c p) 0 ∅ 0)
/-- A piece whose sending has been waited for. -/
def drained (c : Dev nD) (p : Pc) : sProp 𝕄 := iprop(atPos ER (sendCell c p) (0 + 1) ∅ 0 ∗ srcAny c p)
/-- A piece not yet waited for. -/
def unrecv (c : Dev nD) (p : Pc) : sProp 𝕄 := iprop(atPos ER (recvCell c p) 0 ∅ 0 ∗ cred (tallyAt (recvCell c p) () N))
/-- A piece that has come in; the last hop's stays where it landed. -/
def recvd (c : Dev nD) (p : Pc) : sProp 𝕄 := iprop(atPos ER (recvCell c p) (0 + 1) ∅ 0 ∗ if p.2.1 = 6 then slotAny c p else iprop(emp))
/-- What is still owed from the `n`-th piece on. -/
def due (c : Dev nD) (n : ℕ) : sProp 𝕄 := iprop(∃ W, owes (c : Thread nD τ) (owedFrom c n) W)

/-- The pieces, so many of them sent. -/
abbrev sends (c : Dev nD) : ℕ → sProp 𝕄 := stage (unsent c) (sent c)
/-- The pieces, so many of them received. -/
abbrev recvs (c : Dev nD) : ℕ → sProp 𝕄 := stage (unrecv c) (recvd c)
/-- The pieces, so many of them back from sending. -/
abbrev backs (c : Dev nD) : ℕ → sProp 𝕄 := stage (sent c) (drained c)

omit [FloatOps F] in
/-- However far past the last piece, nothing more is due. -/
theorem due_end (c : Dev nD) {n : ℕ} (hn : 56 ≤ n) : (due c n : sProp 𝕄) = due c 56 := by
  unfold due; rw [owedFrom_end c hn, owedFrom_end c (le_refl 56)]

/-! ## Rules -/

/-- From `A`, the operations `f` puts before a program leave `B` to it. -/
def Tri (c : Dev nD) (A B : sProp 𝕄) (f : P F → P F) : Prop :=
  ∀ (k : P F) (Q : PUnit → sProp 𝕄), iprop(ctx m K ∗ A) ⊢ iprop((B -∗ runs c k Q) -∗ runs c (f k) Q)

variable {m K} in
/-- One thing after another. -/
theorem Tri.comp {c : Dev nD} {A B C : sProp 𝕄} {f g : P F → P F} (hf : Tri m K c A B f) (hg : Tri m K c B C g) :
    Tri m K c A C fun k => f (g k) := fun k Q => by
  iintro ⟨#HC, HA⟩ Hk
  iapply (hf (g k) Q) $$ [HA]
  · isplitr; · iexact HC
    iexact HA
  iintro HB
  iapply (hg k Q) $$ [HB]
  · isplitr; · iexact HC
    iexact HB
  iexact Hk

variable {m K} in
/-- What a step does not need stays as it is. -/
theorem Tri.frame {c : Dev nD} {A B : sProp 𝕄} {f : P F → P F} (R : sProp 𝕄) (hf : Tri m K c A B f) :
    Tri m K c iprop(A ∗ R) iprop(B ∗ R) f := fun k Q => by
  iintro ⟨#HC, HA, HR⟩ Hk
  iapply (hf k Q) $$ [HA]
  · isplitr; · iexact HC
    iexact HA
  iintro HB
  iapply Hk
  isplitl [HB] <;> iassumption

variable {m K} in
/-- A step may start from more and leave less. -/
theorem Tri.conv {c : Dev nD} {A A' B B' : sProp 𝕄} {f : P F → P F} (hA : A' ⊢ A) (hB : B ⊢ B') (hf : Tri m K c A B f) :
    Tri m K c A' B' f := fun k Q => by
  iintro ⟨#HC, HA⟩ Hk
  iapply (hf k Q) $$ [HA]
  · isplitr; · iexact HC
    iapply hA $$ HA
  iintro HB
  iapply Hk
  iapply hB $$ HB

variable {m K} in
/-- A step for each direction: two steps. -/
theorem Tri.both {c : Dev nD} {I : ℕ → sProp 𝕄} {n : ℕ} {f : Bool → P F → P F}
    (h : ∀ d, Tri m K c (I (n + cond d 1 0)) (I (n + cond d 1 0 + 1)) (f d)) : Tri m K c (I n) (I (n + 2)) (both f) :=
  (h false).comp (h true)

variable {m K} in
/-- Two steps for each quarter: eight steps. -/
theorem Tri.four {c : Dev nD} {I : ℕ → sProp 𝕄} {n : ℕ} {f : Fin 4 → P F → P F}
    (h : ∀ j : Fin 4, Tri m K c (I (n + 2 * j.val)) (I (n + 2 * j.val + 2)) (f j)) : Tri m K c (I n) (I (n + 8)) (four f) :=
  (h 0).comp ((h 1).comp ((h 2).comp (h 3)))

variable {m K} in
/-- Four quarters in both directions: eight steps. -/
theorem Tri.eight {c : Dev nD} {I : ℕ → sProp 𝕄} {n : ℕ} {f : Bool → Fin 4 → P F → P F}
    (h : ∀ d j, Tri m K c (I (n + 2 * j.val + cond d 1 0)) (I (n + 2 * j.val + cond d 1 0 + 1)) (f d j)) :
    Tri m K c (I n) (I (n + 8)) (RingSum.four fun j => RingSum.both fun d => f d j) :=
  Tri.four fun j => Tri.both fun d => h d j

variable {m K} in
/-- Eight steps for each of six hops. -/
theorem Tri.six {c : Dev nD} {I : ℕ → sProp 𝕄} {f : Fin 6 → P F → P F}
    (h : ∀ s : Fin 6, Tri m K c (I (8 * s.val)) (I (8 * s.val + 8)) (f s)) : Tri m K c (I 0) (I 48) (six f) :=
  (h 0).comp ((h 1).comp ((h 2).comp ((h 3).comp ((h 4).comp (h 5)))))

variable {m K} in
/-- Eight steps for each of seven hops. -/
theorem Tri.seven {c : Dev nD} {I : ℕ → sProp 𝕄} {f : Fin 7 → P F → P F}
    (h : ∀ s : Fin 7, Tri m K c (I (8 * s.val)) (I (8 * s.val + 8)) (f s)) : Tri m K c (I 0) (I 56) (seven f) :=
  (h 0).comp ((h 1).comp ((h 2).comp ((h 3).comp ((h 4).comp ((h 5).comp (h 6))))))

/-! ## Sending -/

/-- The transfer itself. -/
theorem wp_send (c : Dev nD) (d : Bool) (s : Fin 7) (j : Fin 4) (k : P F) (Q : PUnit → sProp 𝕄)
    (fs : Buf (Elt F) ((srcM d s j).view.loc (c : Thread nD τ))) (hfs : (srcM d s j).view.read (Elt F) fs = acc m d j s.val c)
    (fd : Buf (Elt F) ((slotM d s j).view.loc (toDev d c : Thread nD τ))) (W : Waits sig Unit) :
    iprop(cellInv ER (Rd m) (K (c, some (false, (d, s, j)))) (sendCell c (d, s, j))
        ∗ cellInv ER (Rd m) (K (toDev d c, some (true, (d, s, j)))) (recvCell (toDev d c) (d, s, j))
        ∗ ((srcM d s j).view.loc (c : Thread nD τ) ↦[(srcM d s j).view.set]{fullShare} fs)
        ∗ ((slotM d s j).view.loc (toDev d c : Thread nD τ) ↦[(slotM d s j).view.set]{fullShare} fd)
        ∗ owes (c : Thread nD τ) (owedFrom c (ord (d, s, j))) W
        ∗ dutyTok ER (sendCell c (d, s, j)) 0 false ∗ reached ER (sendCell c (d, s, j)) 0
        ∗ dutyTok ER (recvCell (toDev d c) (d, s, j)) 0 false ∗ reached ER (recvCell (toDev d c) (d, s, j)) 0)
      ⊢ iprop(((cred (tallyAt (sendCell c (d, s, j)) () N) ∗ owes (c : Thread nD τ) (owedFrom c (ord (d, s, j) + 1)) W) -∗ runs c k Q)
          -∗ runs c (sendE c d s j k) Q) := by
  unfold sendE
  exact Rounds.wp_send_pointsTo 𝒱₀ ER (Rd m) (c : Thread nD τ) none (c' := (toDev d c : Thread nD τ)) (src := srcM d s j) (dst := slotM d s j)
    (κ₁ := K (c, some (false, (d, s, j)))) (κ₂ := K (toDev d c, some (true, (d, s, j))))
    (r₁ := 0) (r₂ := 0) (d₁ := false) (d₂ := false) (fs := fs) (fd := fd) (k := fun _ => k)
    (by rw [duties_send m c (d, s, j)]; exact Finset.mem_singleton_self _) (by rw [duties_recv m (toDev d c) (d, s, j)]; exact Finset.mem_singleton_self _)
    () () N ((View.amount_dma _ _).trans (slot_credit d s j)) (amount_send m c (d, s, j) false) (amount_recv m (toDev d c) (d, s, j) false)
    (owedFrom c (ord (d, s, j) + 1)) (owedFrom_step c (d, s, j)) (W := W)
    (by rw [payload_send m c (d, s, j)]; unfold srcAny; iintro H; iexists fs; iexact H)
    (by
      rw [payload_recv m (toDev d c) (d, s, j)]
      unfold recvPay
      refine owns_intro (toDev d c) (slotM d s j) _ _ ?_
      rw [View.read_write_univ, hfs]
      exact congrArg (acc m d j s.val) (back_to d c).symm)

/-- The next piece goes out, given that what it is sent from holds its sum. -/
theorem tri_send (c : Dev nD) (d : Bool) (s : Fin 7) (j : Fin 4) {n : ℕ} (hn : ord (d, s, j) = n) :
    Tri m K c iprop(owns (c : Thread nD τ) (srcM d s j) fullShare (acc m d j s.val c) ∗ sends c n ∗ due c n)
      iprop(sends c (n + 1) ∗ due c (n + 1)) (sendE c d s j) := fun k Q => by
  subst hn
  unfold due owns
  iintro ⟨#HC, ⟨%fs, %hfs, Hsrc⟩, Hs, ⟨%W, HO⟩⟩ Hk
  ihave Hs := (stage_step (unsent c) (sent c) (d, s, j) rfl) $$ Hs
  icases Hs with ⟨Hp, Hs⟩
  unfold unsent slotAny
  icases Hp with ⟨Ht1, Ht2, Hat, ⟨%fd, Hdst⟩⟩
  iapply (wp_send m K c d s j k Q fs hfs fd W) $$ [Hsrc Hdst HO Ht1 Ht2]
  · isplitr; · iapply (ctx_send m K c (d, s, j)); iexact HC
    isplitr; · iapply (ctx_recv m K (toDev d c) (d, s, j)); iexact HC
    isplitl [Hsrc]; · iexact Hsrc
    isplitl [Hdst]; · iexact Hdst
    isplitl [HO]; · iexact HO
    isplitl [Ht1]; · iexact Ht1
    isplitr; · iapply (reached_send m K c (d, s, j)); iexact HC
    isplitl [Ht2]; · iexact Ht2
    iapply (reached_recv m K (toDev d c) (d, s, j)); iexact HC
  iintro ⟨Hc, HO⟩
  iapply Hk
  isplitl [Hs Hc Hat]
  · iapply Hs
    unfold sent
    isplitl [Hc] <;> iassumption
  iexists W; iexact HO

/-! ## Waiting -/

/-- Waiting for a piece brings it. -/
theorem tri_wait (c : Dev nD) (d : Bool) (s : Fin 7) (j : Fin 4) :
    Tri m K c iprop(unrecv c (d, s, j) ∗ due c (ord (d, s, j) + 8))
      iprop((atPos ER (recvCell c (d, s, j)) (0 + 1) ∅ 0 ∗ recvPay m c (d, s, j)) ∗ due c (ord (d, s, j) + 8)) (waitE d s j) := fun k Q => by
  unfold due unrecv waitE
  iintro ⟨#HC, ⟨Hat, Hcr⟩, ⟨%W, HO⟩⟩ Hk
  iapply (Rounds.wp_wait_rest_token 𝒱₀ ER (Rd m) (c : Thread nD τ) none (κ := K (c, some (true, (d, s, j))))
      (wpE_waitDma2_eq 𝒱₀ (c : Thread nD τ) none Set.univ) (Set.mem_univ _) () (O := owedFrom c (ord (d, s, j) + 8)) (W := W) (R := 0) (m := 0) (T := ∅)
      (by rw [Nat.zero_add, expect_recv m c (d, s, j), slot_credit])) $$ [Hat Hcr HO]
  · isplitr; · iapply (ctx_recv m K c (d, s, j)); iexact HC
    isplitl [Hcr]; · rw [slot_credit]; iexact Hcr
    isplitl [HO]; · iexact HO
    isplitr
    · iapply (mayWait_recv c (d, s, j))
      iapply (ctx_lev m K); iexact HC
    iexact Hat
  iintro ⟨HO, Hat, -, Hpay⟩
  ihave Hp := (Entails.of_eq (rest_recv m c (d, s, j))) $$ Hpay
  iapply Hk
  isplitl [Hat Hp]
  · isplitl [Hat] <;> iassumption
  iexists _; iexact HO

/-- Waiting for a sent piece gives back the place it was sent from. -/
theorem tri_back (c : Dev nD) (d : Bool) (s : Fin 7) (j : Fin 4) {n : ℕ} (hn : ord (d, s, j) = n) :
    Tri m K c iprop(backs c n ∗ due c 56) iprop(backs c (n + 1) ∗ due c 56) (drainE d s j) := fun k Q => by
  subst hn
  unfold due drainE
  iintro ⟨#HC, Hs, ⟨%W, HO⟩⟩ Hk
  ihave Hs := (stage_step (sent c) (drained c) (d, s, j) rfl) $$ Hs
  icases Hs with ⟨Hp, Hs⟩
  unfold sent
  icases Hp with ⟨Hcr, Hat⟩
  rw [owedFrom_end c (le_refl 56)]
  iapply (Rounds.wp_wait_rest_token 𝒱₀ ER (Rd m) (c : Thread nD τ) none (κ := K (c, some (false, (d, s, j))))
      (wpE_waitDma2_eq 𝒱₀ (c : Thread nD τ) none Set.univ) (Set.mem_univ _) () (O := 0) (W := W) (R := 0) (m := 0) (T := ∅)
      (by rw [Nat.zero_add, expect_send m c (d, s, j), src_credit])) $$ [Hat Hcr HO]
  · isplitr; · iapply (ctx_send m K c (d, s, j)); iexact HC
    isplitl [Hcr]; · rw [src_credit]; iexact Hcr
    isplitl [HO]; · iexact HO
    isplitr; · rw [MayWait_zero]; iempintro
    iexact Hat
  iintro ⟨HO, Hat, -, Hpay⟩
  ihave Hp := (Entails.of_eq (rest_send m c (d, s, j))) $$ Hpay
  iapply Hk
  isplitl [Hs Hat Hp]
  · iapply Hs
    unfold drained
    isplitl [Hat] <;> iassumption
  iexists _; iexact HO

/-! ## Adding -/

/-- Forming the sum of a piece that landed and this device's own product is the next partial sum. -/
theorem sum_acc (c : Dev nD) (d : Bool) (j : Fin 4) (s : ℕ) (t : Fin 8) (ht : Fin.ofNat 8 (s + 1) = t) (v : Vec F S1x32x512 .f32)
    (hv : shapeCast S32x512 v shapeCasts_S1x32x512_S32x512 = acc m d j s (toDev (!d) c)) :
    sumV j (prod m d t c) v = acc m d j (s + 1) c := by
  subst ht
  show addf _ _ = addf _ _
  rw [hv]; rfl

/-- Reading where a piece landed reads only its landing place. -/
theorem slot_setOn (d : Bool) (s : Fin 7) (j : Fin 4) :
    (landM d).view.setOn (slotRect s j).toLoadRect.set ⊆ (slotM d s j).view.set := by
  rw [slot_set, View.set_slice]; exact Finset.Subset.refl _

/-- A piece that came in has this device's product added where it landed, ready to go on. -/
theorem tri_add (c : Dev nD) (d : Bool) (s : Fin 6) (j : Fin 4) {n : ℕ} (hn : ord (d, s.castSucc, j) = n) :
    Tri m K c iprop(recvs c n ∗ due c (n + 8))
      iprop(owns (c : Thread nD τ) (srcM d s.succ j) fullShare (acc m d j s.succ.val c) ∗ recvs c (n + 1) ∗ due c (n + 8))
      (addE d s.castSucc j (prod m d s.succ.castSucc c)) := fun k Q => by
  subst hn
  iintro ⟨#HC, Hs, HO⟩ Hk
  ihave Hs := (stage_step (unrecv c) (recvd c) (d, s.castSucc, j) rfl) $$ Hs
  icases Hs with ⟨Hp, Hs⟩
  unfold addE
  iapply (tri_wait m K c d s.castSucc j _ Q) $$ [Hp HO]
  · isplitr; · iexact HC
    isplitl [Hp] <;> iassumption
  unfold recvPay owns
  iintro ⟨⟨Hat, ⟨%f, %hf, Hb⟩⟩, HO⟩
  iapply (wp_load 𝒱₀ (c : Thread nD τ) none Set.univ (m := landM d) (slot_setOn d s.castSucc j)) $$ Hb; iintro Hb
  iapply (wp_load 𝒱₀ (c : Thread nD τ) none Set.univ (m := landM d) (slot_setOn d s.castSucc j)) $$ Hb; iintro Hb
  iapply (wp_store 𝒱₀ (c : Thread nD τ) none Set.univ (m := landM d) (r := slotRect s.castSucc j) (Mk := Finset.univ)
    (by rw [slot_set]; exact Finset.Subset.refl _)) $$ Hb; iintro Hb
  iapply Hk
  isplitl [Hb]
  · rw [sum_acc m c d j s.val s.succ.castSucc (Fin.ext (Nat.mod_eq_of_lt (by have := s.isLt; omega))) _ ((slot_read d s.castSucc j f).trans hf)]
    iexists _
    isplitr; rotate_left
    · iexact Hb
    · ipureintro; exact slot_write d s.castSucc j f _
  isplitl [Hs Hat]
  · iapply Hs
    unfold recvd
    isplitl [Hat]; · iexact Hat
    rw [if_neg (show ¬ s.castSucc = (6 : Fin 7) from fun h => by have := congrArg Fin.val h; have := s.isLt; simp at *; omega)]
    iempintro
  iexact HO

/-- The result with its first `n` rectangles written. -/
def outs (c : Dev nD) (n : ℕ) : sProp 𝕄 :=
  iprop(∃ f : Buf (Elt F) ((c : Thread nD τ).loc cc0_stg2_0), ⌜OutOk m c n f⌝ ∗ ((c : Thread nD τ).loc cc0_stg2_0) ↦{fullShare} f)

/-- The last hop's piece completes a rectangle of the result. -/
theorem tri_fin (c : Dev nD) (d : Bool) (j : Fin 4) {n : ℕ} (hn : 2 * j.val + cond d 1 0 = n) :
    Tri m K c iprop(recvs c (48 + n) ∗ outs m c n ∗ due c 56) iprop(recvs c (48 + (n + 1)) ∗ outs m c (n + 1) ∗ due c 56)
      (finE d j (prod m d 7 c)) := fun k Q => by
  have ho : ord (d, 6, j) = 48 + n := by subst hn; simp only [ord_mk]; show 8 * 6 + _ + _ = _; omega
  have hd : (due c 56 : sProp 𝕄) = due c (ord (d, 6, j) + 8) := (due_end c (by omega)).symm
  unfold outs
  iintro ⟨#HC, Hs, ⟨%g, %hg, Hout⟩, HO⟩ Hk
  ihave Hs := (stage_step (unrecv c) (recvd c) (d, 6, j) ho) $$ Hs
  icases Hs with ⟨Hp, Hs⟩
  unfold finE
  ihave HO := (Entails.of_eq hd) $$ HO
  iapply (tri_wait m K c d 6 j _ Q) $$ [Hp HO]
  · isplitr; · iexact HC
    isplitl [Hp] <;> iassumption
  unfold recvPay owns
  iintro ⟨⟨Hat, ⟨%f, %hf, Hb⟩⟩, HO⟩
  iapply (wp_load 𝒱₀ (c : Thread nD τ) none Set.univ (m := landM d) (slot_setOn d 6 j)) $$ Hb; iintro Hb
  iapply (wp_load 𝒱₀ (c : Thread nD τ) none Set.univ (m := oM) (Finset.subset_univ _)) $$ Hout; iintro Hout
  iapply (wp_store 𝒱₀ (c : Thread nD τ) none Set.univ (m := oM) (r := outRect d j) (Mk := Finset.univ) (Finset.subset_univ _)) $$ Hout; iintro Hout
  rw [sum_acc m c d j 6 7 rfl _ ((slot_read d 6 j f).trans hf)]
  iapply Hk
  isplitl [Hs Hat Hb]
  · iapply Hs
    unfold recvd slotAny
    isplitl [Hat]; · iexact Hat
    rw [if_pos rfl]
    iexists f; iexact Hb
  isplitl [Hout]
  · iexists _
    isplitr; rotate_left
    · iexact Hout
    · ipureintro; exact out_step m c hg d j hn
  iapply (Entails.of_eq hd.symm) $$ HO

end Cert.RingSum

end
-- ==== Proof.Body.lean ====
/-
# The whole body

The rules for single pieces, put together in the order of the program: the handshake with both
neighbours, the two seed products, seven hops in each direction, and the waits at the end.
-/
module

public import proofs.«01_k».proof.Proof.Steps

@[expose] public section

set_option maxRecDepth 16384

noncomputable section

namespace Cert.RingSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The products -/

/-- A device's two operands, where its core reads them. -/
def inputs (c : Dev nD) : sProp 𝕄 :=
  iprop((((c : Thread nD τ).loc cc0_stg0_0) ↦{fullShare} xstg m c) ∗ (((c : Thread nD τ).loc cc0_stg1_0) ↦{fullShare} wstg m c))

/-- Loading a chunk of `x` and a half of `w`, one direction. -/
theorem wp_operands (c : Dev nD) (d : Bool) (s : Fin 8) (k : Vec F S128x128 .f32 → Vec F S128x512 .f32 → P F) (Q : PUnit → sProp 𝕄) :
    inputs m c ⊢ iprop((inputs m c -∗ runs c (k (xM.view.readAt (Elt F) (xRect c d s).toLoadRect (xstg m c)) (wM.view.readAt (Elt F) (wRect d).toLoadRect (wstg m c))) Q)
      -∗ runs c (ldX c d s fun x => ldW d fun w => k x w) Q) := by
  unfold inputs ldX ldW
  iintro ⟨Hx, Hw⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply Hk
  isplitl [Hx] <;> iassumption

variable {m K} in
/-- Operations that are given both products. -/
theorem Tri.products {c : Dev nD} {s : Fin 8} {A B : sProp 𝕄} {f : FVec F S128x512 .f32 → FVec F S128x512 .f32 → P F → P F}
    (h : Tri m K c A B (f (prod m false s c) (prod m true s c))) :
    Tri m K c iprop(inputs m c ∗ A) iprop(inputs m c ∗ B) (fun k => RingSum.products c s fun pr pl => f pr pl k) := fun k Q => by
  unfold RingSum.products
  iintro ⟨#HC, Hin, HA⟩ Hk
  iapply (wp_operands m c false s (fun x w => ldX c true s fun x' => ldW true fun w' => f (prodV x w) (prodV x' w') k) Q) $$ Hin
  iintro Hin
  iapply (wp_operands m c true s (fun x' w' => f (prodV (xM.view.readAt (Elt F) (xRect c false s).toLoadRect (xstg m c)) (wM.view.readAt (Elt F) (wRect false).toLoadRect (wstg m c))) (prodV x' w') k) Q) $$ Hin
  iintro Hin
  iapply (h k Q) $$ [HA]
  · isplitr; · iexact HC
    iexact HA
  iintro HB
  iapply Hk
  isplitl [Hin] <;> iassumption

/-! ## Seeding -/

/-- The quarters of the seeds not yet sent. -/
def seedOf (c : Dev nD) (p : Pc) : sProp 𝕄 :=
  if p.2.1 = 0 then owns (c : Thread nD τ) (srcM p.1 0 p.2.2) fullShare (acc m p.1 p.2.2 0 c) else iprop(emp)
/-- The pieces still to go out on the first hop. -/
abbrev seeds (c : Dev nD) : ℕ → sProp 𝕄 := stage (seedOf m c) fun _ => iprop(emp)

/-- A piece that goes out on the first hop is a quarter of the first product. -/
theorem seedOf_zero (c : Dev nD) (d : Bool) (j : Fin 4) :
    seedOf m c (d, 0, j) = owns (c : Thread nD τ) (srcM d 0 j) fullShare (acc m d j 0 c) := if_pos rfl

/-- The seed buffer once the product is stored is its four quarters. -/
theorem seed_stored (c : Dev nD) (d : Bool) (f : Buf (Elt F) (((seedM d).access wholeRect).loc (c : Thread nD τ))) :
    (((seedM d).access wholeRect).loc (c : Thread nD τ) ↦{fullShare} (((seedM d).access wholeRect).write (Elt F) f
        (shapeCast S128x512 (prodV (xM.view.readAt (Elt F) (xRect c d 0).toLoadRect (xstg m c)) (wM.view.readAt (Elt F) (wRect d).toLoadRect (wstg m c)))
          shapeCasts_S128x512_S128x512) Finset.univ) : sProp 𝕄)
      ⊢ bigSep Finset.univ fun j : Fin 4 => owns (c : Thread nD τ) (srcM d 0 j) fullShare (acc m d j 0 c) :=
  seed_split c d (prod m d 0 c) _ ((seed_write d _ _).trans (shapeCast_self _ _))

/-- Storing a direction's first product. -/
theorem tri_seed (c : Dev nD) (d : Bool) :
    Tri m K c iprop(inputs m c ∗ seedAny c d)
      iprop(inputs m c ∗ bigSep Finset.univ fun j : Fin 4 => owns (c : Thread nD τ) (srcM d 0 j) fullShare (acc m d j 0 c)) (seedE c d) := fun k Q => by
  unfold seedAny
  iintro ⟨#HC, Hin, ⟨%f, Hs⟩⟩ Hk
  unfold seedE
  iapply (wp_operands m c d 0 _ Q) $$ Hin
  iintro Hin
  iapply (wp_load 𝒱₀ (c : Thread nD τ) none Set.univ (m := seedM d) (Finset.subset_univ _)) $$ Hs; iintro Hs
  iapply (wp_store 𝒱₀ (c : Thread nD τ) none Set.univ (m := seedM d) (r := wholeRect) (Mk := Finset.univ) (Finset.subset_univ _)) $$ Hs; iintro Hs
  iapply Hk
  isplitl [Hin]; · iexact Hin
  iapply (seed_stored m c d f) $$ Hs

omit [FloatOps F] in
/-- Nothing, however often, is nothing. -/
theorem bigSep_nothing {I : Type} (S : Finset I) : (bigSep S fun _ => iprop(emp)) = (iprop(emp) : sProp 𝕄) := bigSep_emp_const S

omit [FloatOps F] in
/-- Over two directions: the one and the other. -/
theorem bigSep_bool (Φ : Bool → sProp 𝕄) : bigSep Finset.univ Φ = iprop(Φ false ∗ Φ true) :=
  bigSep_univ_eq_bigSepL [false, true] (by decide) (by decide) Φ

omit [FloatOps F] in
/-- Over seven hops of which only the first has something: that. -/
theorem bigSep_only_zero (Φ : Fin 7 → sProp 𝕄) (h : ∀ s, s ≠ 0 → Φ s = iprop(emp)) : Φ 0 ⊢ bigSep Finset.univ Φ := by
  rw [bigSep_univ_at Φ 0, bigSep_congr (s := Finset.univ.erase 0) (Ψ := fun _ => iprop(emp)) fun s hs => h s (Finset.ne_of_mem_erase hs), bigSep_nothing]
  iintro H
  isplitl [H]; · iexact H
  iempintro

/-- The quarters of both first products are what the first hop sends. -/
theorem seeds_intro (c : Dev nD) :
    (bigSep Finset.univ fun d : Bool => bigSep Finset.univ fun j : Fin 4 => owns (c : Thread nD τ) (srcM d 0 j) fullShare (acc m d j 0 c)) ⊢ seeds m c 0 := by
  rw [show seeds m c 0 = _ from stage_zero _ _, bigSep_univ_prod]
  refine bigSep_mono fun d _ => ?_
  rw [bigSep_univ_prod]
  refine Entails.trans (Entails.of_eq ?_) (bigSep_only_zero (fun s => bigSep Finset.univ fun j : Fin 4 => seedOf m c (d, s, j)) fun s hs => ?_)
  · exact bigSep_congr fun j _ => (seedOf_zero m c d j).symm
  · rw [bigSep_congr (Ψ := fun _ => iprop(emp)) fun j _ => by unfold seedOf; rw [if_neg hs], bigSep_nothing]

/-! ## The phases -/

/-- Hop 0 sends the seeds. -/
theorem tri_first (c : Dev nD) :
    Tri m K c iprop(seeds m c 0 ∗ sends c 0 ∗ due c 0) iprop(seeds m c 8 ∗ sends c 8 ∗ due c 8)
      (four fun j => both fun d => sendE c d 0 j) :=
  Tri.eight (I := fun n => iprop(seeds m c n ∗ sends c n ∗ due c n)) (n := 0) fun d j => by
    have ho : ord (d, 0, j) = 0 + 2 * j.val + cond d 1 0 := by rw [ord_mk]; rfl
    refine Tri.conv (A := iprop((owns (c : Thread nD τ) (srcM d 0 j) fullShare (acc m d j 0 c) ∗ sends c (0 + 2 * j.val + cond d 1 0) ∗ due c (0 + 2 * j.val + cond d 1 0))
        ∗ seeds m c (0 + 2 * j.val + cond d 1 0 + 1))) ?_ ?_ (Tri.frame _ (tri_send m K c d 0 j ho))
    · iintro ⟨Hs, Hr⟩
      ihave Hs := (stage_step (seedOf m c) (fun _ => iprop(emp)) (d, 0, j) ho) $$ Hs
      icases Hs with ⟨Hp, Hs⟩
      isplitl [Hp Hr]
      · isplitl [Hp]
        · iapply (Entails.of_eq (seedOf_zero m c d j)) $$ Hp
        · iexact Hr
      · iapply Hs; iempintro
    · iintro ⟨H, Hs⟩
      isplitl [Hs] <;> iassumption

/-- A hop: every piece of the hop before comes in, grows by this device's product and goes on. -/
theorem tri_hop (c : Dev nD) (s : Fin 6) :
    Tri m K c iprop(inputs m c ∗ recvs c (8 * s.val) ∗ sends c (8 * s.val + 8) ∗ due c (8 * s.val + 8))
      iprop(inputs m c ∗ recvs c (8 * s.val + 8) ∗ sends c (8 * s.val + 8 + 8) ∗ due c (8 * s.val + 8 + 8)) (hopE c s) :=
  Tri.products (f := fun pr pl => four fun j => both fun d k => addE d s.castSucc j (cond d pl pr) (sendE c d s.succ j k))
    (Tri.eight (I := fun n => iprop(recvs c n ∗ sends c (n + 8) ∗ due c (n + 8))) (n := 8 * s.val) fun d j => by
      have h1 : ord (d, s.castSucc, j) = 8 * s.val + 2 * j.val + cond d 1 0 := by rw [ord_mk]; rfl
      have h2 : ord (d, s.succ, j) = 8 * s.val + 2 * j.val + cond d 1 0 + 8 := by rw [ord_mk, Fin.val_succ]; omega
      rw [show cond d (prod m true s.succ.castSucc c) (prod m false s.succ.castSucc c) = prod m d s.succ.castSucc c by cases d <;> rfl]
      refine Tri.comp
        (Tri.conv (A' := iprop(recvs c (8 * s.val + 2 * j.val + cond d 1 0) ∗ sends c (8 * s.val + 2 * j.val + cond d 1 0 + 8) ∗ due c (8 * s.val + 2 * j.val + cond d 1 0 + 8)))
          (B' := iprop((owns (c : Thread nD τ) (srcM d s.succ j) fullShare (acc m d j s.succ.val c) ∗ sends c (8 * s.val + 2 * j.val + cond d 1 0 + 8) ∗ due c (8 * s.val + 2 * j.val + cond d 1 0 + 8))
            ∗ recvs c (8 * s.val + 2 * j.val + cond d 1 0 + 1)))
          ?_ ?_ (Tri.frame (sends c (8 * s.val + 2 * j.val + cond d 1 0 + 8)) (tri_add m K c d s j h1)))
        (Tri.conv (BI.Entails.refl _) ?_ (Tri.frame _ (tri_send m K c d s.succ j h2)))
      · iintro ⟨H1, H2, H3⟩
        isplitl [H1 H3]
        · isplitl [H1] <;> iassumption
        · iexact H2
      · iintro ⟨⟨H1, H2, H3⟩, H4⟩
        isplitl [H1 H3 H4]
        · isplitl [H1]; · iexact H1
          isplitl [H4] <;> iassumption
        · iexact H2
      · iintro ⟨⟨H1, H2⟩, H3⟩
        isplitl [H3]; · iexact H3
        isplitl [H1]
        · iapply (Entails.of_eq (congrArg (sends c) (show _ = _ by omega))) $$ H1
        · iapply (Entails.of_eq (congrArg (due c) (show _ = _ by omega))) $$ H2)

/-- The last hop writes the result. -/
theorem tri_last (c : Dev nD) :
    Tri m K c iprop(inputs m c ∗ recvs c 48 ∗ outs m c 0 ∗ due c 56) iprop(inputs m c ∗ recvs c 56 ∗ outs m c 8 ∗ due c 56) (lastE c) :=
  Tri.products (f := fun pr pl => four fun j => both fun d => finE d j (cond d pl pr))
    (Tri.eight (I := fun n => iprop(recvs c (48 + n) ∗ outs m c n ∗ due c 56)) (n := 0) fun d j => by
      rw [show cond d (prod m true 7 c) (prod m false 7 c) = prod m d 7 c by cases d <;> rfl]
      exact tri_fin m K c d j (by rw [Nat.zero_add]))

/-- At the end every sent piece is waited for. -/
theorem tri_backs (c : Dev nD) : Tri m K c iprop(backs c 0 ∗ due c 56) iprop(backs c 56 ∗ due c 56) (seven drains) :=
  Tri.seven (I := fun n => iprop(backs c n ∗ due c 56)) fun s =>
    Tri.eight (I := fun n => iprop(backs c n ∗ due c 56)) fun d j => tri_back m K c d s j (by rw [ord_mk])

/-- From the seeds to the end. -/
theorem tri_main (c : Dev nD) :
    Tri m K c iprop(inputs m c ∗ seeds m c 0 ∗ sends c 0 ∗ recvs c 0 ∗ outs m c 0 ∗ due c 0)
      iprop(inputs m c ∗ backs c 56 ∗ recvs c 56 ∗ outs m c 8 ∗ due c 56)
      (fun k => four (fun j => both fun d => sendE c d 0 j) <| six (hopE c) <| lastE c <| seven drains k) := by
  have h2 := Tri.six (I := fun n => iprop(inputs m c ∗ recvs c n ∗ sends c (n + 8) ∗ due c (n + 8))) (f := hopE c) (tri_hop m K c)
  refine Tri.comp (Tri.conv ?_ ?_ (Tri.frame iprop(inputs m c ∗ recvs c 0 ∗ outs m c 0) (tri_first m K c)))
    (Tri.comp (Tri.conv (BI.Entails.refl _) ?_ (Tri.frame (outs m c 0) h2))
      (Tri.comp (Tri.conv (BI.Entails.refl _) ?_ (Tri.frame (sends c 56) (tri_last m K c)))
        (Tri.conv (BI.Entails.refl _) ?_ (Tri.frame iprop(inputs m c ∗ recvs c 56 ∗ outs m c 8) (tri_backs m K c)))))
  · iintro ⟨H1, H2, H3, H4, H5, H6⟩
    isplitl [H2 H3 H6]
    · isplitl [H2]; · iexact H2
      isplitl [H3] <;> iassumption
    isplitl [H1]; · iexact H1
    isplitl [H4] <;> iassumption
  · iintro ⟨⟨-, H2, H3⟩, H4, H5, H6⟩
    isplitr [H6]
    · isplitl [H4]; · iexact H4
      isplitl [H5]; · iexact H5
      isplitl [H2] <;> iassumption
    iexact H6
  · iintro ⟨⟨H1, H2, H3, H4⟩, H5⟩
    isplitr [H3]
    · isplitl [H1]; · iexact H1
      isplitl [H2]; · iexact H2
      isplitl [H5] <;> iassumption
    iexact H3
  · iintro ⟨⟨H1, H2, H3, H4⟩, H5⟩
    isplitl [H4 H5]
    · isplitl [H5]
      · iapply (Entails.of_eq ((stage_end (unsent c) (sent c)).trans (stage_zero (sent c) (drained c)).symm)) $$ H5
      · iexact H4
    isplitl [H1]; · iexact H1
    isplitl [H2] <;> iassumption
  · iintro ⟨⟨H1, H2⟩, H3, H4, H5⟩
    isplitl [H3]; · iexact H3
    isplitl [H1]; · iexact H1
    isplitl [H4]; · iexact H4
    isplitl [H5] <;> iassumption

/-! ## The handshake -/

/-- The rights a device sets out with for one piece. -/
def ready (c : Dev nD) (p : Pc) : sProp 𝕄 :=
  iprop(dutyTok ER (sendCell c p) 0 false ∗ dutyTok ER (recvCell (toDev p.1 c) p) 0 false ∗ atPos ER (sendCell c p) 0 ∅ 0)

/-- All the rights a device sets out with. -/
def ghost (c : Dev nD) : sProp 𝕄 :=
  iprop((dutyTok ER (barCell (toDev true c)) 0 false ∗ dutyTok ER (barCell (toDev false c)) 0 true)
    ∗ (atPos ER (barCell c) 0 ∅ 0 ∗ cred (tallyAt (barCell c) () 2))
    ∗ (bigSep Finset.univ fun p : Pc => ready c p) ∗ (bigSep Finset.univ fun p : Pc => unrecv c p))

omit [FloatOps F] in
/-- A device's landing buffer is what it signals to the neighbour that will write there. -/
theorem land_pay (c : Dev nD) (d : Bool) : (landAny c d : sProp 𝕄) ⊢ barPay (toDev (!d) c) d := by
  unfold barPay
  rw [to_back d c]
  exact land_split c d

omit [FloatOps F] in
/-- The rights to send a piece, with the place it lands in, make it ready to go. -/
theorem unsent_intro (c : Dev nD) (p : Pc) : iprop(ready c p ∗ slotAny (toDev p.1 c) p) ⊢ (unsent c p : sProp 𝕄) := by
  unfold ready unsent
  iintro ⟨⟨H1, H2, H3⟩, H4⟩
  isplitl [H1]; · iexact H1
  isplitl [H2]; · iexact H2
  isplitl [H3] <;> iassumption

omit [FloatOps F] in
/-- So it is with all pieces. -/
theorem sends_intro (c : Dev nD) :
    iprop((bigSep Finset.univ fun p : Pc => (ready c p : sProp 𝕄)) ∗ bigSep Finset.univ fun p : Pc => slotAny (toDev p.1 c) p) ⊢ sends c 0 := by
  rw [← bigSep_sep', show (sends c 0 : sProp 𝕄) = _ from stage_zero _ _]
  exact bigSep_mono fun p _ => unsent_intro c p

/-- Everything a device sets out with is enough for its body, and this is what it ends with. -/
theorem run_script (c : Dev nD) (Q : PUnit → sProp 𝕄) :
    iprop(ctx m K ∗ ghost c ∗ (∃ W, owes (c : Thread nD τ) (O₀ c) W) ∗ (landAny c false ∗ landAny c true) ∗ (seedAny c false ∗ seedAny c true)
        ∗ inputs m c ∗ outs m c 0)
      ⊢ iprop((((inputs m c ∗ backs c 56 ∗ recvs c 56 ∗ outs m c 8 ∗ due c 56) ∗ atPos ER (barCell c) (0 + 1) ∅ 0) -∗ runs c (.ret ⟨⟩) Q)
          -∗ runs c (script c) Q) := by
  unfold ghost script
  iintro ⟨#HC, ⟨⟨Ht1, Ht2⟩, ⟨Hat, Hcr⟩, Hrdy, Hrcv⟩, ⟨%W, HO⟩, ⟨HL1, HL2⟩, ⟨HS1, HS2⟩, Hin, Hout⟩ Hk
  simp only [dev1_to c, dev2_to c]
  iapply (Rounds.wp_signal 𝒱₀ ER (Rd m) (c : Thread nD τ) none (dst := (toDev true c : Thread nD τ)) (κ := K (toDev true c, none)) (d := false)
      (by rw [duties_bar]; exact Finset.mem_univ _) ((amount_bar m (toDev true c) false).trans (by decide)) ()
      (owedFrom c 0 + tallyAt (barCell (toDev false c)) () 1) rfl) $$ [HO Ht1 HL1]
  · isplitr; · iapply (ctx_bar m K (toDev true c)); iexact HC
    isplitl [HO]; · iexact HO
    isplitl [Ht1]; · iexact Ht1
    isplitl [HL1]
    · rw [payload_bar]; iapply (land_pay c false) $$ HL1
    · iapply (reached_bar m K (toDev true c)); iexact HC
  iintro HO
  iapply (Rounds.wp_signal 𝒱₀ ER (Rd m) (c : Thread nD τ) none (dst := (toDev false c : Thread nD τ)) (κ := K (toDev false c, none)) (d := true)
      (by rw [duties_bar]; exact Finset.mem_univ _) ((amount_bar m (toDev false c) true).trans (by decide)) ()
      (owedFrom c 0) rfl) $$ [HO Ht2 HL2]
  · isplitr; · iapply (ctx_bar m K (toDev false c)); iexact HC
    isplitl [HO]; · iexact HO
    isplitl [Ht2]; · iexact Ht2
    isplitl [HL2]
    · rw [payload_bar]; iapply (land_pay c true) $$ HL2
    · iapply (reached_bar m K (toDev false c)); iexact HC
  iintro HO
  iapply (Rounds.wp_wait_rest_token 𝒱₀ ER (Rd m) (c : Thread nD τ) none (κ := K (c, none))
      (wpE_semWait_eq 𝒱₀ (c : Thread nD τ) none Set.univ) (Set.mem_univ _) () (O := owedFrom c 0) (W := W) (R := 0) (m := 0) (T := ∅)
      (by rw [expect_bar]; decide)) $$ [Hcr HO Hat]
  · isplitr; · iapply (ctx_bar m K c); iexact HC
    isplitl [Hcr]; · iexact Hcr
    isplitl [HO]; · iexact HO
    isplitr
    · iapply (mayWait_bar c)
      iapply (ctx_lev m K); iexact HC
    iexact Hat
  iintro ⟨HO, Hat, -, Hpay⟩
  ihave Hp := (Entails.of_eq (rest_bar m c)) $$ Hpay
  unfold both
  iapply (tri_seed m K c false _ Q) $$ [Hin HS1]
  · isplitr; · iexact HC
    isplitl [Hin] <;> iassumption
  iintro ⟨Hin, HS1⟩
  iapply (tri_seed m K c true _ Q) $$ [Hin HS2]
  · isplitr; · iexact HC
    isplitl [Hin] <;> iassumption
  iintro ⟨Hin, HS2⟩
  iapply (tri_main m K c _ Q) $$ [Hin HS1 HS2 HO Hrdy Hrcv Hp Hout]
  · isplitr; · iexact HC
    isplitl [Hin]; · iexact Hin
    isplitl [HS1 HS2]
    · iapply (seeds_intro m c)
      rw [bigSep_bool]
      isplitl [HS1] <;> iassumption
    isplitl [Hrdy Hp]
    · iapply (sends_intro c)
      isplitl [Hrdy] <;> iassumption
    isplitl [Hrcv]
    · iapply (Entails.of_eq (stage_zero (unrecv c) (recvd c)).symm) $$ Hrcv
    isplitl [Hout]; · iexact Hout
    unfold due; iexists _; iexact HO
  iintro H
  iapply Hk
  isplitl [H] <;> iassumption

/-! ## Closing the cells, gluing the buffers -/

omit [FloatOps F] in
/-- What is known throughout may be used at every index. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A piece taken back: its cell is done with. -/
theorem close_send (c : Dev nD) (p : Pc) :
    iprop(ctx m K ∗ drained c p) ⊢ |={Set.univ}=> iprop(semVal (sendCell c p) 0 ∗ srcAny c p) := by
  unfold drained
  iintro ⟨#HC, Hat, Hs⟩
  imod (Rounds.cell_close ER (Rd m) (Set.mem_univ (K (c, some (false, p)))) (fun h => h) (R := 0 + 1) (duties_later m (sendCell c p))) $$ [Hat] with Hz
  · isplitr; · iapply (ctx_send m K c p); iexact HC
    iexact Hat
  imodintro
  isplitl [Hz] <;> iassumption

/-- A piece that came in: its cell is done with. -/
theorem close_recv (c : Dev nD) (p : Pc) :
    iprop(ctx m K ∗ recvd c p) ⊢ |={Set.univ}=> iprop(semVal (recvCell c p) 0 ∗ if p.2.1 = 6 then slotAny c p else iprop(emp)) := by
  unfold recvd
  iintro ⟨#HC, Hat, Hs⟩
  imod (Rounds.cell_close ER (Rd m) (Set.mem_univ (K (c, some (true, p)))) (fun h => h) (R := 0 + 1) (duties_later m (recvCell c p))) $$ [Hat] with Hz
  · isplitr; · iapply (ctx_recv m K c p); iexact HC
    iexact Hat
  imodintro
  isplitl [Hz] <;> iassumption

/-- All send cells are at zero at the end, and every source is back. -/
theorem close_sends (c : Dev nD) :
    iprop(ctx m K ∗ backs c 56) ⊢ |={Set.univ}=> iprop((bigSep Finset.univ fun p : Pc => semVal (sendCell c p) 0) ∗ bigSep Finset.univ fun p : Pc => srcAny c p) := by
  rw [show (backs c 56 : sProp 𝕄) = _ from stage_end _ _, ← bigSep_sep']
  exact (bigSep_with fun p _ => close_send m K c p).trans (bigSep_fupd _ _)
/-- All receive cells are at zero at the end, and the last landing places are at hand. -/
theorem close_recvs (c : Dev nD) :
    iprop(ctx m K ∗ recvs c 56) ⊢ |={Set.univ}=> iprop((bigSep Finset.univ fun p : Pc => semVal (recvCell c p) 0)
      ∗ bigSep Finset.univ fun p : Pc => if p.2.1 = 6 then slotAny c p else iprop(emp)) := by
  rw [show (recvs c 56 : sProp 𝕄) = _ from stage_end _ _, ← bigSep_sep']
  exact (bigSep_with fun p _ => close_recv m K c p).trans (bigSep_fupd _ _)

omit [FloatOps F] in
/-- Over seven hops: one after the other. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- Where the pieces of hops 1 to 6 were sent from and where those of the last hop landed is a whole landing buffer;
    where those of hop 0 were sent from is a whole seed buffer. -/
theorem glue (c : Dev nD) (d : Bool) [Inhabited (Elt F .f32)] :
    iprop((bigSep Finset.univ fun q : Fin 7 × Fin 4 => (srcAny c (d, q) : sProp 𝕄))
        ∗ bigSep Finset.univ fun q : Fin 7 × Fin 4 => if q.1 = 6 then slotAny c (d, q) else iprop(emp))
      ⊢ iprop(seedAny c d ∗ landAny c d) := by
  have hz : (bigSep Finset.univ fun j : Fin 4 => (if (6 : Fin 7) = 6 then slotAny c (d, 6, j) else iprop(emp) : sProp 𝕄))
      ⊢ bigSep Finset.univ fun j : Fin 4 => slotAny c (d, 6, j) := Entails.of_eq (bigSep_congr fun j _ => if_pos rfl)
  rw [bigSep_univ_prod, bigSep_univ_prod, bigSep_fin7, bigSep_fin7]
  iintro ⟨⟨H0, H1, H2, H3, H4, H5, H6⟩, -, -, -, -, -, -, Hl⟩
  isplitl [H0]
  · iapply (seed_join c d) $$ H0
  iapply (land_join c d)
  rw [bigSep_univ_prod, bigSep_fin7]
  isplitl [H1]; · iexact H1
  isplitl [H2]; · iexact H2
  isplitl [H3]; · iexact H3
  isplitl [H4]; · iexact H4
  isplitl [H5]; · iexact H5
  isplitl [H6]; · iexact H6
  iapply hz $$ Hl

omit [FloatOps F] in
/-- What came back and what is at hand at the end are the four scratch buffers. -/
theorem glue_all (c : Dev nD) [Inhabited (Elt F .f32)] :
    iprop((bigSep Finset.univ fun p : Pc => (srcAny c p : sProp 𝕄)) ∗ bigSep Finset.univ fun p : Pc => if p.2.1 = 6 then slotAny c p else iprop(emp))
      ⊢ iprop((seedAny c false ∗ landAny c false) ∗ (seedAny c true ∗ landAny c true)) := by
  rw [← bigSep_bool (fun d => (iprop(seedAny c d ∗ landAny c d) : sProp 𝕄)),
    bigSep_univ_prod, bigSep_univ_prod, ← bigSep_sep']
  exact bigSep_mono fun d _ => glue c d

end Cert.RingSum

end
-- ==== Proof.Run.lean ====
/-
# The run

One device's body between what the launch hands it and what it hands back, the rights shared out
among the devices when the program starts, and the run of the whole program on every mesh member.
-/
module

public import proofs.«01_k».proof.Proof.Body
public import proofs.«01_k».proof.Proof.Gen.KernelIdeal.Points

@[expose] public section

set_option maxRecDepth 16384

noncomputable section

namespace Cert.RingSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## One device's body, as the launch sees it -/

/-- A device's four working buffers, at whatever they hold. -/
def works (c : Dev nD) : sProp 𝕄 := iprop((seedAny c false ∗ landAny c false) ∗ (seedAny c true ∗ landAny c true))

/-- What a device sets out with besides its staged operands. -/
def start (c : Dev nD) : sProp 𝕄 := iprop(∃ K, ctx m K ∗ ghost c)

/-- A device's own counters, back at zero. -/
def quiet (c : Dev nD) : sProp 𝕄 :=
  iprop(semVal (barCell c) 0 ∗ bigSep Finset.univ fun k : Bool × Pc => semVal (kcell (c, some k)) 0)

/-- What the arrays, the staged blocks and the device's state are, before and after the body. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => iprop(start m c ∗ works c)
    | ⟨_ + 1, _⟩ => iprop(quiet c ∗ works c)
  q _ := fullShare
  owed t := match t with
    | ⟨0, _⟩ => O₀ c
    | ⟨_ + 1, _⟩ => 0

omit [FloatOps F] in
/-- Owning a whole buffer with given contents is holding all its elements. -/
theorem whole_owned (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What a device has before the body. -/
def before (c : Dev nD) : sProp 𝕄 :=
  iprop((start m c ∗ works c) ∗ (dats m 0 c).owesAt () t0_0.castSucc
    ∗ (∃ d, staged c cc0_stg0_0 ((dats m 0 c).before (0 : Fin 3) t0_0 d))
    ∗ (∃ d, staged c cc0_stg1_0 ((dats m 0 c).before (1 : Fin 3) t0_0 d))
    ∗ (∃ d, staged c cc0_stg2_0 ((dats m 0 c).before (2 : Fin 3) t0_0 d)))

/-- What a device has after it. -/
def afterwards (c : Dev nD) : sProp 𝕄 :=
  iprop((quiet c ∗ works c) ∗ (dats m 0 c).owesAt () t0_0.succ
    ∗ staged c cc0_stg0_0 (xstg m c) ∗ staged c cc0_stg1_0 (wstg m c) ∗ staged c cc0_stg2_0 (outAt m c))

/-- A float exists, since an entry of `x` does. -/
@[reducible] def someElt : Inhabited (Elt F .f32) := ⟨xstg m 0 (fun a => ⟨0, by fin_cases a <;> decide⟩)⟩

omit [FloatOps F] in
/-- Over all the copies' cells: the send cells and the receive cells. -/
theorem bigSep_sides (Φ : Bool × Pc → sProp 𝕄) :
    bigSep Finset.univ Φ = iprop((bigSep Finset.univ fun p : Pc => Φ (false, p)) ∗ bigSep Finset.univ fun p : Pc => Φ (true, p)) := by
  rw [bigSep_univ_prod, bigSep_bool]

/-- When the script has run, every cell is closed, every counter zero, and every buffer whole again. -/
theorem wind_up (K : Dev nD × CI → ℕ) (c : Dev nD) :
    iprop(ctx m K ∗ atPos ER (barCell c) (0 + 1) ∅ 0 ∗ backs c 56 ∗ recvs c 56) ⊢ |={Set.univ}=> iprop(quiet c ∗ works c) := by
  letI := someElt m
  iintro ⟨#HC, Hat, HB, HR⟩
  imod (Rounds.cell_close ER (Rd m) (Set.mem_univ (K (c, none))) (fun h => h) (R := 0 + 1) (duties_later m (barCell c))) $$ [Hat] with Hz
  · isplitr; · iapply (ctx_bar m K c); iexact HC
    iexact Hat
  imod (close_sends m K c) $$ [HB] with ⟨Hzs, HB⟩
  · isplitr; · iexact HC
    iexact HB
  imod (close_recvs m K c) $$ [HR] with ⟨Hzr, HR⟩
  · isplitr; · iexact HC
    iexact HR
  imodintro
  unfold quiet works
  isplitl [Hz Hzs Hzr]
  · isplitl [Hz]; · iexact Hz
    iapply (Entails.of_eq (bigSep_sides fun k => semVal (kcell (c, some k)) 0).symm)
    isplitl [Hzs]; · iexact Hzs
    iexact Hzr
  iapply (glue_all c)
  isplitl [HB] <;> iassumption

/-- One device's body, from what the launch hands it to what it hands back. -/
theorem sound_body (c : Dev nD) (Q : PUnit → sProp 𝕄) :
    iprop(before m c ∗ (afterwards m c -∗ Q ⟨⟩)) ⊢ runs c (script c) Q := by
  unfold before start works
  iintro ⟨⟨⟨⟨%K, #HC, Hg⟩, ⟨HS1, HL1⟩, HS2, HL2⟩, Ho, ⟨%d0, %g0, %hg0, Hx⟩, ⟨%d1, %g1, %hg1, Hw⟩, ⟨%d2, %g2, %hg2, Hout⟩⟩, Hk⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx; subst hw
  unfold Dat.owesAt Pipeline.owesWithin
  icases Ho with ⟨%W, %hW, HO⟩
  rw [show (dats m 0 c).owed t0_0.castSucc = O₀ c from rfl]
  iapply (run_script m K c Q) $$ [Hg HO HL1 HL2 HS1 HS2 Hx Hw Hout]
  · isplitr; · iexact HC
    isplitl [Hg]; · iexact Hg
    isplitl [HO]; · iexists _; iexact HO
    isplitl [HL1 HL2]; · isplitl [HL1] <;> iassumption
    isplitl [HS1 HS2]; · isplitl [HS1] <;> iassumption
    isplitl [Hx Hw]
    · unfold inputs; isplitl [Hx] <;> iassumption
    unfold outs
    iexists g2
    isplitr; · ipureintro; exact out_zero m c g2
    iexact Hout
  iintro ⟨⟨Hin, HB, HR, Hout, HO⟩, Hat⟩
  unfold outs due inputs
  icases Hout with ⟨%f, %hf, Hout⟩
  icases HO with ⟨%W', HO⟩
  icases Hin with ⟨Hx, Hw⟩
  imod (wind_up m K c) $$ [Hat HB HR] with HZ
  · isplitr; · iexact HC
    isplitl [Hat]; · iexact Hat
    isplitl [HB] <;> iassumption
  rw [wp_ret]; imodintro
  iapply Hk
  unfold afterwards Dat.owesAt Pipeline.owesWithin
  rw [show (dats m 0 c).owed t0_0.succ = 0 from rfl]
  isplitl [HZ]; · iexact HZ
  isplitl [HO]
  · iexists W'
    isplitr; · ipureintro; exact fun _ _ => Or.inl trivial
    iapply (Entails.of_eq (congrArg (fun O => owes (c : Thread nD τ) O W') (owedFrom_end c (le_refl 56)))); iexact HO
  isplitl [Hx]
  · iexists _; isplitr; · (ipureintro; rfl)
    iexact Hx
  isplitl [Hw]
  · iexists _; isplitr; · (ipureintro; rfl)
    iexact Hw
  iexists f; isplitr; · (ipureintro; exact out_end m c hf)
  iexact Hout

set_option maxRecDepth 200000 in
/-- The body, from what the pipeline gives it, leaves what the pipeline asks back. -/
theorem body_obligation (c : Dev nD) : BodyObligation (dats (F := F) m 0 c) (defs₀ (F := F)) 𝒱₀ () Set.univ := fun t => by
  rw [fin_N0 t, bigSep_W0, bigSep_W0]
  simp only [whole_owned]
  show before m c ⊢ wp frame (wpE (defs₀ (F := F)) 𝒱₀ c none) Set.univ
    (cc0_body xM (Memref.isWhole_whole _) wM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7) (fun _ => afterwards m c)
  rw [body_eq]
  simp only [wp_deviceId]
  iintro H
  iapply (sound_body m c fun _ => afterwards m c)
  isplitl [H]; · iexact H
  iintro H; iexact H

end Cert.RingSum

end
-- ==== Proof.Launch.lean ====
/-
# The launch

Every device's cells are opened at once, the rights over them are dealt to the devices that use
them, and the run of the whole program follows from the one body.
-/
module

public import proofs.«01_k».proof.Proof.Run
public import Idealize.ShloMosaic.Lib.Pipeline.CollectiveSegs

@[expose] public section

set_option maxRecDepth 16384

noncomputable section

namespace Cert.RingSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cells and rights at the start -/

/-- The kernel's own counters: two for each piece. -/
abbrev osem (k : Bool × Pc) : SemLoc sig := .dma (dsem k)

/-- The staging transfers have the first three counters. -/
theorem stage_lt (w : Fin cfg0.W) (s : Fin (cfg0.spec w).nbuf) : ((cfg0.spec w).sem s).val < 3 := by
  revert w s; decide

/-- The kernel's own semaphores are distinct, and none is the pipeline's. -/
theorem osem_facts : Pipeline.OwnSemFacts cfg0.spec osem where
  isScoped := by decide +kernel
  inj := fun k k' h => by injection h with h; exact dsem_inj h
  disj := fun k w s h => by
    injection h with h
    have h1 : (dsem k).val < 3 := by rw [h]; exact stage_lt w s
    have := dsem_val k
    omega

/-- A device holds the whole of each of its arrays. -/
theorem share_eq (c : Dev nD) (w : Fin cfg0.W) : (dats m 0 c).share w = fullShare := by unfold Dat.share; split <;> rfl

/-- The cells of all devices. -/
def allCells : Finset (GSem nD τ sig) := Finset.univ.map ⟨kcell, kcell_inj⟩

/-- A right for either name at every cell; some will not be used. -/
abbrev rightAt (x : Dev nD × (CI × Bool)) : GSem nD τ sig × ℕ × Bool := (kcell (x.1, x.2.1), 0, x.2.2)

/-- No two rights are one. -/
theorem rightAt_inj : Function.Injective rightAt := by
  rintro ⟨c, i, b⟩ ⟨c', i', b'⟩ h
  have h1 := kcell_inj (congrArg Prod.fst h)
  have h2 : b = b' := congrArg (fun x : GSem nD τ sig × ℕ × Bool => x.2.2) h
  cases h1; cases h2; rfl

/-- The rights of all devices. -/
def allRights : Finset (GSem nD τ sig × ℕ × Bool) := Finset.univ.map ⟨rightAt, rightAt_inj⟩

/-- The counts at the start. -/
def u₀ : UU :=
  (initOf (Pipeline.cells cfgs cellOf_inj) (Pipeline.launchToks cfgs cellOf_inj), initOf allCells allRights)

/-- The rights over a device's own cells. -/
def rights (c : Dev nD) : sProp 𝕄 :=
  bigSep Finset.univ fun x : CI × Bool => dutyTok ER (kcell (c, x.1)) 0 x.2

/-- A device's positions at its cells, and that each stands at round zero. -/
def places (c : Dev nD) : sProp 𝕄 :=
  bigSep Finset.univ fun i : CI => iprop(atPos ER (kcell (c, i)) 0 ∅ 0 ∗ reached ER (kcell (c, i)) 0)

/-- What one device is dealt. -/
def dealt (c : Dev nD) : sProp 𝕄 :=
  iprop((bigSep Finset.univ fun i : CI => roundState ER (Rd m) (kcell (c, i)) 0) ∗ places c ∗ rights c)

/-- The counts at the start are dealt to the devices. -/
theorem deal : BI.own (ER (initOf allCells allRights)) ⊢ (|==> bigSep Finset.univ (dealt m) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allRights (fun x => (dutyTok ER x.1 x.2.1 x.2.2 : sProp 𝕄)) = bigSep Finset.univ fun c : Dev nD => rights c := by
    unfold allRights; rw [bigSep_map, bigSep_univ_prod]; rfl
  iintro HX
  imod (Rounds.fund ER (Rd m) allCells allRights) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt places; simp only [bigSep_sep']
  isplitl [Hst]; · iexact Hst
  isplitl [Hat Hr]
  · isplitl [Hat] <;> iassumption
  iexact Htok

omit [FloatOps F] in
/-- The barrier apart from the pieces. -/
theorem bigSep_cells (Φ : CI → sProp 𝕄) :
    bigSep Finset.univ Φ = iprop(Φ none ∗ bigSep Finset.univ fun k : Bool × Pc => Φ (some k)) := by
  rw [bigSep_univ_at Φ none, show (Finset.univ : Finset CI).erase none = Finset.univ.map Function.Embedding.some from ?_, bigSep_map]
  · rfl
  · ext i; rcases i with _ | k <;> simp

omit [FloatOps F] in
/-- The one counter that outlives the kernel is the barrier's. -/
theorem unscoped_eq (c : Dev nD) : (unscopedSems0 c : sProp 𝕄) = semVal (barCell c) 0 := by
  unfold unscopedSems0; rw [bigSep_eq_bigSepL_of_eq [SemLoc.reg barA.sem] (by decide +kernel) (by decide)]; rfl

omit [FloatOps F] in
/-- The kernel's own counters are those of its copies' cells. -/
theorem own_eq (c : Dev nD) : (Pipeline.ownSems0 (Ix := Unit) (Name := ℕ) (U := UU) (Lvl := ℕ) (Val := Elt F) (τ := τ) osem c : sProp 𝕄)
    = bigSep Finset.univ fun k : Bool × Pc => semVal (kcell (c, some k)) 0 := rfl

/-- A device's counters at zero open its cells. -/
theorem open_cells (c : Dev nD) :
    iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) := by
  rw [← bigSep_sep']
  exact (bigSep_mono fun i _ => (Rounds.body_intro ER (Rd m) (kcell (c, i))).trans inv_alloc).trans (bigSep_fupd _ _)

/-- A device's cells are opened from its counters at zero. -/
theorem core_open (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun i : CI => iprop(∃ κ : ℕ, cellInv ER (Rd m) κ (kcell (c, i)))) ∗ places c ∗ rights c) := by
  unfold dealt
  iintro ⟨Hos, Hus, Hst, Hat, Htok⟩
  imod (open_cells m c) $$ [Hos Hus Hst] with Hinv
  · isplitr [Hst]
    · iapply (Entails.of_eq (bigSep_cells fun i : CI => semVal (kcell (c, i)) 0).symm)
      isplitl [Hus]
      · iapply (Entails.of_eq (unscoped_eq c)); iexact Hus
      iapply (Entails.of_eq (own_eq c)); iexact Hos
    iexact Hst
  imodintro
  isplitl [Hinv]; · iexact Hinv
  isplitl [Hat] <;> iassumption

/-! ## Dealing the rights around the ring -/

/-- The rights a device uses. -/
def uses (c : Dev nD) : sProp 𝕄 :=
  iprop((dutyTok ER (barCell (toDev true c)) 0 false ∗ dutyTok ER (barCell (toDev false c)) 0 true)
    ∗ (bigSep Finset.univ fun p : Pc => dutyTok ER (sendCell c p) 0 false)
    ∗ bigSep Finset.univ fun p : Pc => dutyTok ER (recvCell (toDev p.1 c) p) 0 false)

omit [FloatOps F] in
/-- Of the two rights at a copy's cell the first is the one that is used. -/
theorem first_name (c : Dev nD) (k : Bool × Pc) :
    (bigSep Finset.univ fun b : Bool => dutyTok ER (kcell (c, some k)) 0 b) ⊢ (dutyTok ER (kcell (c, some k)) 0 false : sProp 𝕄) :=
  bigSep_elim (Finset.mem_univ false)

omit [FloatOps F] in
/-- A device's rights: two at the barrier, one at each send cell, one at each receive cell. -/
theorem rights_sorted (c : Dev nD) :
    (rights c : sProp 𝕄) ⊢ iprop((dutyTok ER (barCell c) 0 false ∗ dutyTok ER (barCell c) 0 true)
      ∗ (bigSep Finset.univ fun p : Pc => dutyTok ER (sendCell c p) 0 false) ∗ bigSep Finset.univ fun p : Pc => dutyTok ER (recvCell c p) 0 false) := by
  have h : (bigSep Finset.univ fun k : Bool × Pc => bigSep Finset.univ fun b : Bool => (dutyTok ER (kcell (c, some k)) 0 b : sProp 𝕄))
      ⊢ bigSep Finset.univ fun k : Bool × Pc => (dutyTok ER (kcell (c, some k)) 0 false : sProp 𝕄) :=
    bigSep_mono fun k _ => first_name c k
  unfold rights
  rw [bigSep_univ_prod, bigSep_cells, bigSep_bool]
  iintro ⟨Hb, Hk⟩
  isplitl [Hb]; · iexact Hb
  ihave Hk := h $$ Hk
  iapply (Entails.of_eq (bigSep_sides fun k : Bool × Pc => dutyTok ER (kcell (c, some k)) 0 false)); iexact Hk

/-- A device and a piece sent in to it: the device that sends it. -/
def pieceAround : (Dev nD × Pc) ≃ (Dev nD × Pc) where
  toFun x := (toDev x.2.1 x.1, x.2)
  invFun x := (toDev (!x.2.1) x.1, x.2)
  left_inv x := Prod.ext (back_to x.2.1 x.1) rfl
  right_inv x := Prod.ext (to_back x.2.1 x.1) rfl

omit [FloatOps F] in
/-- The rights at the receive cells, dealt to the devices that send there. -/
theorem pieces_around :
    (bigSep Finset.univ fun c : Dev nD => bigSep Finset.univ fun p : Pc => (dutyTok ER (recvCell c p) 0 false : sProp 𝕄))
      = bigSep Finset.univ fun c : Dev nD => bigSep Finset.univ fun p : Pc => (dutyTok ER (recvCell (toDev p.1 c) p) 0 false : sProp 𝕄) := by
  have h1 := bigSep_univ_prod (fun x : Dev nD × Pc => (dutyTok ER (recvCell x.1 x.2) 0 false : sProp 𝕄))
  have h2 := bigSep_univ_equiv pieceAround (fun x : Dev nD × Pc => (dutyTok ER (recvCell x.1 x.2) 0 false : sProp 𝕄))
  have h3 := bigSep_univ_prod (fun x : Dev nD × Pc => (dutyTok ER (recvCell (toDev x.2.1 x.1) x.2) 0 false : sProp 𝕄))
  exact h1.symm.trans (h2.trans h3)

omit [FloatOps F] in
/-- All rights, dealt to the devices that use them. -/
theorem rights_around : (bigSep Finset.univ fun c : Dev nD => (rights c : sProp 𝕄)) ⊢ bigSep Finset.univ fun c : Dev nD => uses c := by
  refine (bigSep_mono fun c _ => rights_sorted c).trans ?_
  unfold uses
  rw [bigSep_sep', bigSep_sep', bigSep_sep', bigSep_sep', bigSep_sep', bigSep_sep',
    bigSep_univ_equiv (around true) (fun c : Dev nD => (dutyTok ER (barCell c) 0 false : sProp 𝕄)),
    bigSep_univ_equiv (around false) (fun c : Dev nD => (dutyTok ER (barCell c) 0 true : sProp 𝕄)), pieces_around]
  exact BI.Entails.refl _

/-- A device's positions. -/
def stands (c : Dev nD) : sProp 𝕄 := bigSep Finset.univ fun i : CI => atPos ER (kcell (c, i)) 0 ∅ 0

/-- What the common step gives a device. -/
def share (c : Dev nD) : sProp 𝕄 :=
  iprop(∃ K : Dev nD × CI → ℕ, ((bigSep Finset.univ fun ck : Dev nD × CI => cellInv ER (Rd m) (K ck) (kcell ck))
    ∗ (bigSep Finset.univ fun ck : Dev nD × CI => reached ER (kcell ck) 0)) ∗ stands c ∗ uses c)

/-- The rules of all cells, and that each has begun. -/
def known (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)
instance known_persistent (K : Dev nD × CI → ℕ) : BI.Persistent (known m K) := by unfold known; infer_instance

/-- What all know, with what one device stands at and may use, is its share. -/
theorem share_intro (K : Dev nD × CI → ℕ) (c : Dev nD) : iprop(known m K ∗ (stands c ∗ uses c)) ⊢ share m c := by
  unfold known share
  iintro ⟨HK, H⟩
  iexists K
  isplitl [HK]; · iexact HK
  iexact H

omit [FloatOps F] in
/-- Where all devices stand, and that every cell has begun. -/
theorem places_eq : (bigSep Finset.univ fun c : Dev nD => (places c : sProp 𝕄))
    = iprop((bigSep Finset.univ fun c : Dev nD => stands c) ∗ bigSep Finset.univ fun ck : Dev nD × CI => reached ER (kcell ck) 0) := by
  unfold places stands
  rw [bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]

/-- The opened cells are shared among the devices that use them. -/
theorem regroup :
    (bigSep Finset.univ fun c : Dev nD => iprop((bigSep Finset.univ fun i : CI => iprop(∃ κ : ℕ, cellInv ER (Rd m) κ (kcell (c, i)))) ∗ places c ∗ rights c) : sProp 𝕄)
      ⊢ bigSep Finset.univ (share m) := by
  rw [bigSep_sep', bigSep_sep', places_eq, ← bigSep_univ_prod (fun ck : Dev nD × CI => iprop(∃ κ : ℕ, cellInv ER (Rd m) κ (kcell ck)))]
  iintro ⟨HI, ⟨Hat, HR⟩, Htok⟩
  ihave HK := (BI.bigSep_exists_pi Finset.univ (fun (ck : Dev nD × CI) (κ : ℕ) => (cellInv ER (Rd m) κ (kcell ck) : sProp 𝕄))) $$ HI
  icases HK with ⟨%K, HI⟩
  ihave Htok := rights_around $$ Htok
  iapply (bigSep_with (R := known m K) fun c _ => share_intro m K c)
  isplitl [HI HR]
  · unfold known; isplitl [HI] <;> iassumption
  · iapply (Entails.of_eq (bigSep_sep' Finset.univ (fun c : Dev nD => stands c) uses).symm)
    isplitl [Hat] <;> iassumption

/-- All cells are opened, and each device has its share. -/
theorem open_all : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (share m) :=
  ((bigSep_mono fun c _ => core_open m c).trans (bigSep_fupd _ _)).trans (BI.fupd_mono (regroup m))

/-! ## What each device may expect -/

/-- Two barrier cells are one only on one device. -/
theorem bar_eq_iff {a b : Dev nD} : Iff (barCell a = barCell b) (a = b) :=
  ⟨fun h => Fin.ext (congrArg (fun g : GSem nD τ sig => g.1.1.val) h), fun h => h ▸ rfl⟩

/-- Two receive cells are one only on one device and for one piece. -/
theorem recv_eq_iff {a b : Dev nD} {p q : Pc} : Iff (recvCell a p = recvCell b q) (a = b ∧ p = q) :=
  ⟨fun h => by
    have h := kcell_inj (a₁ := (a, some (true, p))) (a₂ := (b, some (true, q))) h
    cases h; exact ⟨rfl, rfl⟩, fun h => by rw [h.1, h.2]⟩

/-- A receive cell is not a barrier cell. -/
theorem recv_ne_bar (a b : Dev nD) (p : Pc) : recvCell a p ≠ barCell b := fun h => by
  have h := kcell_inj (a₁ := (a, some (true, p))) (a₂ := (b, none)) h
  cases h

/-- What a device owes a cell for all its copies. -/
theorem owedFrom_at (d : Dev nD) (g : GSem nD τ sig) : owedFrom d 0 g () = ∑ q : Pc, tallyAt (recvCell (toDev q.1 d) q) () N g () := by
  unfold owedFrom
  rw [Finset.filter_true_of_mem fun _ _ => Nat.zero_le _, Finset.sum_apply, Finsupp.finset_sum_apply]

/-- A device owes one unit to each neighbour's barrier. -/
theorem owed_at_bar (d c : Dev nD) : O₀ d (barCell c) () = (if d = toDev true c then 1 else 0) + (if d = toDev false c then 1 else 0) := by
  unfold O₀
  rw [Pi.add_apply, Finsupp.add_apply, Pi.add_apply, Finsupp.add_apply, owedFrom_at,
    Finset.sum_eq_zero fun q _ => by rw [tallyAt_ne_cell fun h => recv_ne_bar _ _ _ h.symm]; rfl,
    Nat.zero_add, tallyAt_apply, tallyAt_apply]
  congr 1 <;> refine if_congr ⟨fun h => ?_, fun h => ⟨?_, rfl⟩⟩ rfl rfl
  · exact (to_eq_iff false d c).mp (bar_eq_iff.mp h.1.symm)
  · rw [h]; exact congrArg barCell (to_back false c).symm
  · exact (to_eq_iff true d c).mp (bar_eq_iff.mp h.1.symm)
  · rw [h]; exact congrArg barCell (to_back true c).symm

/-- A device owes a receive cell its count if it is the one behind. -/
theorem owed_at_recv (d c : Dev nD) (p : Pc) : O₀ d (recvCell c p) () = if d = toDev (!p.1) c then N else 0 := by
  unfold O₀
  rw [Pi.add_apply, Finsupp.add_apply, Pi.add_apply, Finsupp.add_apply, owedFrom_at,
    tallyAt_ne_cell (recv_ne_bar _ _ _), tallyAt_ne_cell (recv_ne_bar _ _ _), Finsupp.zero_apply, Nat.add_zero, Nat.add_zero,
    Finset.sum_eq_single p (fun q _ hq => by rw [tallyAt_ne_cell fun h => hq (recv_eq_iff.mp h).2.symm]; rfl) (fun h => absurd (Finset.mem_univ p) h),
    tallyAt_apply]
  refine if_congr ⟨fun h => ?_, fun h => ⟨?_, rfl⟩⟩ rfl rfl
  · exact (to_eq_iff p.1 d c).mp (recv_eq_iff.mp h.1).1.symm
  · rw [h, to_back p.1]

/-- A barrier may expect two units. -/
theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_at_bar d c, Finset.sum_add_distrib,
    Finset.sum_ite_eq' Finset.univ (toDev true c) fun _ => 1, Finset.sum_ite_eq' Finset.univ (toDev false c) fun _ => 1,
    if_pos (Finset.mem_univ _), if_pos (Finset.mem_univ _)]

/-- A receive cell may expect one piece's count. -/
theorem credit_recv (c : Dev nD) (p : Pc) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_at_recv d c p,
    Finset.sum_ite_eq' Finset.univ (toDev (!p.1) c) fun _ => N, if_pos (Finset.mem_univ _)]

/-- The arrival counter of a piece. -/
def recvAt (p : Pc) : SemLoc sig := csem (some (true, p))
/-- No two pieces have one receive semaphore. -/
theorem recvAt_inj : Function.Injective recvAt := fun p q h => by
  have h : csem (some (true, p)) = csem (some (true, q)) := h
  have h := csem_inj h
  cases h; rfl

omit [FloatOps F] in
/-- Two signals and every piece. -/
theorem credits (c : Dev nD) :
    (Pipeline.launchCred O₀ c : sProp 𝕄)
      ⊢ iprop(cred (tallyAt (barCell c) () 2) ∗ bigSep Finset.univ fun p : Pc => cred (tallyAt (recvCell c p) () N)) := by
  have hsub : Finset.univ.map ⟨recvAt, recvAt_inj⟩ ⊆ (Finset.univ : Finset (SemLoc sig)).erase (SemLoc.reg barA.sem) := fun x hx => by
    obtain ⟨p, -, rfl⟩ := Finset.mem_map.mp hx
    exact Finset.mem_erase.mpr ⟨(fun h => by cases h), Finset.mem_univ _⟩
  unfold Pipeline.launchCred
  rw [bigSep_univ_at _ (SemLoc.reg barA.sem), credit_bar]
  refine sep_mono_right ((bigSep_subset hsub).trans ?_)
  rw [bigSep_map]
  exact bigSep_mono fun p _ => Entails.of_eq (congrArg cred (credit_recv c p))

/-! ## The run -/

omit [FloatOps F] in
/-- The rights over the pieces' cells, with the positions there, piece by piece. -/
theorem ghost_intro (c : Dev nD) :
    iprop(stands c ∗ uses c ∗ cred (tallyAt (barCell c) () 2) ∗ bigSep Finset.univ fun p : Pc => cred (tallyAt (recvCell c p) () N))
      ⊢ (ghost c : sProp 𝕄) := by
  unfold stands uses ghost ready unrecv
  rw [bigSep_cells, bigSep_sides, bigSep_sep', bigSep_sep', bigSep_sep']
  iintro ⟨⟨HaB, HaS, HaR⟩, ⟨Hb, Hs, Hr⟩, HcB, HcR⟩
  isplitl [Hb]; · iexact Hb
  isplitl [HaB HcB]; · isplitl [HaB] <;> iassumption
  isplitl [HaS Hs Hr]
  · isplitl [Hs]; · iexact Hs
    isplitl [Hr]; · iexact Hr
    iexact HaS
  isplitl [HaR]; · iexact HaR
  iexact HcR

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share m c)
      ⊢ |={Set.univ}=> iprop(start m c ∗ emp) := by
  unfold share start ctx
  iintro ⟨-, Hlev, Hcr, -, ⟨%K, ⟨HI, HR⟩, Hst, Hu⟩⟩
  ihave Hc := (credits c) $$ Hcr
  imodintro
  isplitl
  · iexists K
    isplitl [HI HR Hlev]
    · isplitl [HI]; · iexact HI
      isplitl [HR] <;> iassumption
    iapply (ghost_intro c)
    isplitl [Hst]; · iexact Hst
    isplitl [Hu]; · iexact Hu
    iexact Hc
  · iempintro

omit [FloatOps F] in
/-- The launch's working buffers are the body's. -/
theorem works_eq (c : Dev nD) :
    (Pipeline.scopedRest cfg0.spec c : sProp 𝕄) = iprop(seedAny c false ∗ seedAny c true ∗ landAny c false ∗ landAny c true) :=
  scopedRest0_eq c

/-- With its scratch buffers that is what the body needs. -/
theorem phi_enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ works c) from rfl, works_eq]
  unfold works
  iintro ⟨Hs, -, H1, H2, H3, H4⟩
  isplitl [Hs]; · iexact Hs
  isplitl [H1 H3]
  · isplitl [H1] <;> iassumption
  isplitl [H2] <;> iassumption

/-- What the body leaves has every counter at zero and every buffer back. -/
theorem phi_leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(quiet c ∗ works c) from rfl, works_eq, own_eq, unscoped_eq]
  unfold quiet works
  iintro ⟨⟨Hb, Hk⟩, ⟨H1, H3⟩, H2, H4⟩
  isplitl [Hb]; · iexact Hb
  isplitl [Hk]; · iexact Hk
  isplitl [H1]; · iexact H1
  isplitl [H2]; · iexact H2
  isplitl [H3] <;> iassumption

/-- The pipeline's own waits are allowed. -/
theorem waits (c : Dev nD) : (levAts L lv : sProp 𝕄) ⊢ Pipeline.cellsWaits cfgs (dats m) () 0 c :=
  Pipeline.cellsWaits_intro cfgs (dats m) () 0 c fun w s t =>
    mayWait_stage c _ (stage_lt w s) _ (by
      rcases t with ⟨_ | _, ht⟩
      · exact Or.inl rfl
      · exact Or.inr rfl)

/-- What each array holds in the end. -/
def finalA (c : Dev nD) (w : Fin cfg0.W) : Buf (Elt F) ((cfg0.win w).arr.view.loc (c : Thread nD τ)) := (dats m 0 c).arrAt w cfg0.N

/-- Every array of every device ends at its final contents. -/
def Ends : PUnit × MemSt nD τ sig (Elt F) → Prop := fun r =>
  ∀ c : Dev nD, ∀ w : Fin cfg0.W, r.2.mem ((cfg0.win w).arr.view.loc (c : Thread nD τ)) = finalA m c w

set_option maxRecDepth 200000 in
/-- Every run of the program ends, with each array at its final contents and every counter at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := share m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := open_all m)
    (hA := fun _ _ => rfl) (hpf := fun _ k => k.elim0)
    (X := start m) (Y := fun c => unscopedSems0 c) (Z := fun _ => iprop(emp))
    (hX := start_intro m ρ) (hin := phi_enter m) (hout := phi_leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays end with -/

/-- The blocks of `x` end as they began. -/
theorem final_x (c : Dev nD) : finalA m c (0 : Fin 3) = m ((c : Thread nD τ).loc main_arg0) :=
  (dats (F := F) m 0 c).arrAt_in (0 : Fin 3) rfl _

/-- The blocks of `w` end as they began. -/
theorem final_w (c : Dev nD) : finalA m c (1 : Fin 3) = m ((c : Thread nD τ).loc main_arg1) :=
  (dats (F := F) m 0 c).arrAt_in (1 : Fin 3) rfl _

end Cert.RingSum

end
-- ==== Proof.Algebra.lean ====
/-
# What the ring adds up to

Read over the extended reals, the quarter of a result that a device is left with is the sum, over
the devices in the order the quarter visited them, of one block of the contraction. The visits meet
every device once, so the sum is the whole matrix product.
-/
module

public import proofs.«01_k».proof.Proof.Launch
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.ValueIdx
public import Idealize.ShloMosaic.Lib.Pipeline.Value

@[expose] public section

set_option maxRecDepth 16384

noncomputable section

namespace Cert.RingSum

open Cert.KernelIdeal Cert.KernelIdeal.Gen
open Idealize.ShloMosaic Idealize.ShloMosaic.TcCoe Idealize.ShloMosaic.ValueIdx
open Idealize.ShloMosaic.Pipeline (Dat)

/-! ## The result array, over any float values -/

section AnyFloats

variable {F : FTy → Type} [FloatOps F] (m : (ℓ : Loc nD τ sig) → Buf (Elt F) ℓ)

/-- The staged block of `x` is the device's whole array. -/
theorem xstg_eq (c : Dev nD) : xstg m c = m ((c : Thread nD τ).loc main_arg0) := by
  have hz : (fun a => win0_0.index (0 : Fin 1) a * main_arg0.ty.shape.size a) = fun _ => 0 := funext fun a => Nat.zero_mul _
  exact Memref.read_access_unit_zero (Elt F) main_arg0 hz (fun a => by rw [congrFun hz a]; simp) _

/-- The staged block of `w` is the device's whole array. -/
theorem wstg_eq (c : Dev nD) : wstg m c = m ((c : Thread nD τ).loc main_arg1) := by
  have hz : (fun a => win0_1.index (0 : Fin 1) a * main_arg1.ty.shape.size a) = fun _ => 0 := funext fun a => Nat.zero_mul _
  exact Memref.read_access_unit_zero (Elt F) main_arg1 hz (fun a => by rw [congrFun hz a]; simp) _

/-- The result array ends with the rectangles the body stored, put together. -/
theorem final_out (c : Dev nD) : finalA m c (2 : Fin 3) = outAt m c := by
  have hz : (fun a => win0_2.index t0_0 a * main_v1.ty.shape.size a) = fun _ => 0 := funext fun a => Nat.zero_mul _
  refine (dats m 0 c).arrAt_eq_of_cover (2 : Fin 3) (outAt m c) (fun t _ => ?_) (fun i => ⟨t0_0, flush0_2 _, ?_⟩)
  · obtain rfl := fin_N0 t
    exact (Memref.read_access_unit_zero (Elt F) main_v1 hz (fun a => by rw [congrFun hz a]; simp) (outAt m c)).symm
  · show i ∈ ((View.whole main_v1).slice (win0_2.rect t0_0)).set
    rw [View.set_slice_whole, Rect.mem_set_unit]
    refine fun a => ⟨?_, ?_⟩
    · exact (Nat.zero_mul _).trans_le (Nat.zero_le _)
    · exact (i a).isLt.trans_le (Nat.le_add_left _ _)

end AnyFloats

/-! ## Sums over the extended reals -/

section Reals

/-- A whole argument: a square array of extended reals. -/
abbrev Mat : Type := FVec Ideal ⟨2, ![1024, 1024]⟩ .f32

/-- A square array is eight blocks of columns. -/
theorem tilesX : Layout.Tiles ⟨2, ![1024, 128]⟩ ⟨2, ![1024, 1024]⟩ 1 8 := by decide
/-- A square array is eight blocks of rows. -/
theorem tilesW : Layout.Tiles ⟨2, ![128, 1024]⟩ ⟨2, ![1024, 1024]⟩ 0 8 := by decide

/-- An entry of a square array, by two numbers. -/
def entry (X : Mat) (a b : ℕ) : EReal := if h : a < 1024 ∧ b < 1024 then X (ix2 ⟨a, h.1⟩ ⟨b, h.2⟩) else 0

/-- Reading the array at an index is reading it at the index's two numbers. -/
theorem entry_of (X : Mat) (i : (⟨2, ![1024, 1024]⟩ : Shape).Idx) {a b : ℕ} (ha : (i 0).val = a) (hb : (i 1).val = b) :
    X i = entry X a b := by
  subst ha hb
  have h : (i 0).val < 1024 ∧ (i 1).val < 1024 := ⟨(i 0).isLt, (i 1).isLt⟩
  rw [entry, dif_pos h]
  exact congrArg X (eq_ix2 i)

/-- One device's block of the contraction. -/
def term (X W : Mat) (R C : ℕ) (e : ℕ) : EReal := ∑ k : Fin 128, entry X R (e * 128 + k.val) * entry W (e * 128 + k.val) C

/-- The blocks of all eight devices make up the entry of the product. -/
theorem sum_term (X W : Mat) (R C : ℕ) :
    ∑ e : Fin 8, term X W R C e.val = ∑ k : Fin 1024, entry X R k.val * entry W k.val C := by
  unfold term
  rw [← Fintype.sum_prod_type' (f := fun (e : Fin 8) (k : Fin 128) => entry X R (e.val * 128 + k.val) * entry W (e.val * 128 + k.val) C)]
  refine Fintype.sum_equiv (finProdFinEquiv (m := 8) (n := 128)) _ (fun k : Fin (8 * 128) => entry X R k.val * entry W k.val C) fun p => ?_
  have h : (finProdFinEquiv p).val = p.1.val * 128 + p.2.val := by
    rw [finProdFinEquiv_apply_val]; omega
  simp only [h]

/-- An entry of the reference's product. -/
theorem product_entry (X W : Mat) (R C : Fin 1024) :
    ∑ k : Fin 1024, entry X R.val k.val * entry W k.val C.val
      = Host.dotGeneral (F := Ideal) Cert.ReferenceIdeal.dot_S1024x1024_S1024x1024_S1024x1024_1_0_0_1_n_n none X W (ix2 R C) := by
  refine Eq.trans ?_ (StackMember.dotGeneral_plain_apply none X W R C).symm
  refine Finset.sum_congr rfl fun k _ => congr_arg₂ (fun a b : EReal => a * b) ?_ ?_
  · exact (entry_of X (ix2 R k) rfl rfl).symm
  · exact (entry_of W (ix2 k C) rfl rfl).symm

/-- An entry of the product of a chunk by a half. -/
theorem prodV_entry (x : Vec Ideal S128x128 .f32) (w : Vec Ideal S128x512 .f32) (r : Fin 128) (n : Fin 512) :
    prodV x w (ix2 r n) = ∑ k : Fin 128, (x (ix2 r k) * w (ix2 k n) : EReal) := by
  show FloatOps.matmul (F := Ideal) (DotDims.plain 128 128 512) none (shapeCast S128x128 x shapeCasts_S128x128_S128x128)
    (shapeCast S128x512 w shapeCasts_S128x512_S128x512) (constant S128x512 .f32 0x00000000#32) (ix2 r n) = _
  rw [shapeCast_self, shapeCast_self, Ideal.matmul_plain_apply]
  show Ideal.ofBits .f32 0x00000000#32 + _ = _
  rw [Ideal.ofBits_zero_f32, zero_add]

/-! ## The order of the visits -/

/-- The chunk of `x` a device multiplies at hop `s` is the one owned by the device the quarter will end at. -/
theorem xOff_eq (c : Dev nD) (d : Bool) (s : Fin 8) : xOff c d s = ![128 * ((toDev d)^[7 - s.val] c).val, 0] := by
  revert c d s; decide +kernel

/-- Going seven steps back, one meets every device once. -/
theorem visits (d : Bool) (c : Dev nD) : Function.Bijective (fun t : Fin 8 => (toDev d)^[t.val] c) := by
  revert d c; decide +kernel

variable (m : (ℓ : Loc nD τ sig) → Buf (Elt Ideal) ℓ) (X W : Mat)
  (hX : ∀ c : Dev nD, m ((c : Thread nD τ).loc main_arg0) = Layout.block ⟨2, ![1024, 128]⟩ ⟨2, ![1024, 1024]⟩ 1 8 c X tilesX)
  (hW : ∀ c : Dev nD, m ((c : Thread nD τ).loc main_arg1) = Layout.block ⟨2, ![128, 1024]⟩ ⟨2, ![1024, 1024]⟩ 0 8 c W tilesW)

include hX in
/-- An entry of the chunk of `x` that is read. -/
theorem x_entry (c : Dev nD) (d : Bool) (s : Fin 8) (r k : Fin 128) :
    xM.view.readAt (Elt Ideal) (xRect c d s).toLoadRect (xstg m c) (ix2 r k)
      = entry X (128 * ((toDev d)^[7 - s.val] c).val + r.val) (c.val * 128 + k.val) := by
  rw [xstg_eq, hX c]
  refine entry_of X _ ?_ ?_
  · show xOff c d s 0 + 1 * r.val = _
    rw [xOff_eq, Nat.one_mul]; rfl
  · show c.val * 128 + (xOff c d s 1 + 1 * k.val) = _
    rw [xOff_eq, Nat.one_mul]
    exact congrArg (c.val * 128 + ·) (Nat.zero_add _)

include hW in
/-- An entry of the half of `w` that is read. -/
theorem w_entry (c : Dev nD) (d : Bool) (k : Fin 128) (n : Fin 512) :
    wM.view.readAt (Elt Ideal) (wRect d).toLoadRect (wstg m c) (ix2 k n) = entry W (c.val * 128 + k.val) (colOff d + n.val) := by
  rw [wstg_eq, hW c]
  refine entry_of W _ ?_ ?_
  · show c.val * 128 + (0 + 1 * k.val) = _
    omega
  · show colOff d + 1 * n.val = _
    omega

include hX hW in
/-- An entry of a product is one device's block of the contraction. -/
theorem prod_entry (d : Bool) (s : Fin 8) (c : Dev nD) (r : Fin 128) (n : Fin 512) :
    prod m d s c (ix2 r n) = term X W (128 * ((toDev d)^[7 - s.val] c).val + r.val) (colOff d + n.val) c.val := by
  refine (prodV_entry _ _ r n).trans (Finset.sum_congr rfl fun k _ => ?_)
  exact congr_arg₂ (fun a b : EReal => a * b) (x_entry m X hX c d s r k) (w_entry m W hW c d k n)

include hX hW in
/-- An entry of a quarter of a product. -/
theorem part_entry (d : Bool) (j : Fin 4) (s : Fin 8) (c : Dev nD) (i : S32x512.Idx) :
    part m d j s c i = term X W (128 * ((toDev d)^[7 - s.val] c).val + (32 * j.val + (i 0).val)) (colOff d + (i 1).val) c.val := by
  have h0 : (i 0).val < 32 := (i 0).isLt
  refine (extractStridedSlice_apply ![32 * j.val, 0] (prod m d s c) (sliceOk j) i
    (ix2 ⟨32 * j.val + (i 0).val, by omega⟩ ⟨(i 1).val, (i 1).isLt⟩) fun a => ?_).trans (prod_entry m X W hX hW d s c _ _)
  fin_cases a
  · rfl
  · exact (Nat.zero_add _).symm

include hX hW in
/-- A quarter after `s` hops holds the blocks of the devices it has visited. -/
theorem acc_entry (d : Bool) (j : Fin 4) (i : S32x512.Idx) : ∀ (s : ℕ), s ≤ 7 → ∀ c : Dev nD,
    acc m d j s c i = ∑ t ∈ Finset.range (s + 1),
      term X W (128 * ((toDev d)^[7 - s] c).val + (32 * j.val + (i 0).val)) (colOff d + (i 1).val) ((toDev (!d))^[t] c).val
  | 0, _, c => by
    rw [Finset.sum_range_one]
    exact part_entry m X W hX hW d j 0 c i
  | s + 1, hs, c => by
    rw [Finset.sum_range_succ']
    show acc m d j s (toDev (!d) c) i + part m d j (Fin.ofNat 8 (s + 1)) c i = _
    have e : (toDev d)^[7 - s] (toDev (!d) c) = (toDev d)^[7 - (s + 1)] c := by
      rw [show 7 - s = (7 - (s + 1)) + 1 by omega, Function.iterate_succ_apply, to_back]
    have v : (Fin.ofNat 8 (s + 1)).val = s + 1 := Nat.mod_eq_of_lt (by omega)
    rw [acc_entry d j i s (by omega) (toDev (!d) c), part_entry m X W hX hW, e, v]
    simp only [Function.iterate_succ_apply, Function.iterate_zero_apply]

include hX hW in
/-- A device's block of the result holds its rows of the product. -/
theorem out_entry (c : Dev nD) (i : S128x1024.Idx) :
    outAt m c i = ∑ k : Fin 1024, entry X (c.val * 128 + (i 0).val) k.val * entry W k.val (i 1).val := by
  have h1 : (i 1).val < 1024 := (i 1).isLt
  have hR : 128 * c.val + (32 * (outQ i).val + (outIdx i 0).val) = c.val * 128 + (i 0).val := by
    show 128 * c.val + (32 * ((i 0).val / 32) + (i 0).val % 32) = _
    omega
  have hC : colOff (outDir i) + (outIdx i 1).val = (i 1).val := by
    show colOff (outDir i) + (i 1).val % 512 = _
    by_cases h : 512 ≤ (i 1).val
    · rw [outDir, decide_eq_true h]; show 512 + _ = _; omega
    · rw [outDir, decide_eq_false h]; show 0 + _ = _; omega
  refine (acc_entry m X W hX hW (outDir i) (outQ i) (outIdx i) 7 le_rfl c).trans ?_
  show ∑ t ∈ Finset.range 8, term X W (128 * c.val + (32 * (outQ i).val + (outIdx i 0).val)) (colOff (outDir i) + (outIdx i 1).val)
    ((toDev (!outDir i))^[t] c).val = _
  rw [hR, hC, ← sum_term, Finset.sum_range]
  exact (Equiv.ofBijective _ (visits (!outDir i) c)).sum_comp (fun e : Fin 8 => term X W (c.val * 128 + (i 0).val) (i 1).val e.val)

include hX hW in
/-- Each device ends with its block of rows of the reference's product. -/
theorem out_block (c : Dev nD) :
    finalA m c (2 : Fin 3) = Layout.block ⟨2, ![128, 1024]⟩ ⟨2, ![1024, 1024]⟩ 0 8 c
      (Host.dotGeneral (F := Ideal) Cert.ReferenceIdeal.dot_S1024x1024_S1024x1024_S1024x1024_1_0_0_1_n_n none X W) tilesW := by
  rw [final_out]
  funext i
  have hi : c.val * 128 + (i 0).val < 1024 := by
    have h := c.isLt
    have h0 : (i 0).val < 128 := (i 0).isLt
    have : c.val < 8 := h
    omega
  refine (out_entry m X W hX hW c i).trans ?_
  have e : (Layout.Tiles.idx (S := ⟨2, ![128, 1024]⟩) (T := ⟨2, ![1024, 1024]⟩) (a := 0) (k := 8) tilesW c i)
      = ix2 ⟨c.val * 128 + (i 0).val, hi⟩ ⟨(i 1).val, (i 1).isLt⟩ := by
    funext a; fin_cases a <;> rfl
  rw [Layout.block_apply, e]
  exact product_entry X W ⟨c.val * 128 + (i 0).val, hi⟩ ⟨(i 1).val, (i 1).isLt⟩

end Reals

end Cert.RingSum

end
-- ==== Proof.lean ====
/-
# The claims, proved

The two runs of the kernel come from one theorem over any float values; the value claim adds what
the ring sums to.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebra
public import Idealize.ShloMosaic.Lib.Quiescent
public import Idealize.ShloMosaic.Adequacy
public import Idealize.ShloMosaic.Init

@[expose] public section

noncomputable section

namespace Cert.Proof

open Idealize.ShloMosaic Idealize.SL.Sem Cert.RingSum

set_option maxRecDepth 200000 in
/-- The two printed kernels have one body, so one table of kernel bodies. -/
theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  rcases l with ⟨_ | l, h⟩
  · rfl
  · exact absurd h (Nat.not_lt.2 (Nat.le_add_left _ _))

/-- And so one table for the whole launch. -/
theorem defs_same : Cert.Kernel.defs (F := Bits) = Cert.KernelIdeal.defs (F := Bits) :=
  congrArg (Pipeline.defs (Cert.Kernel.pcfgs (F := Bits))) bodies_same

/-- The kernel as printed runs, keeps its arguments, and leaves every counter at zero. -/
theorem frame_kernel : Cert.quiescent_Kernel := fun m ρ _ => by
  rw [defs_same]
  exact (θ_run Cert.KernelIdeal.defs _ _).mono
    (fun _ h => ⟨fun c => ⟨(h.1 c (0 : Fin 3)).trans (final_x m c), (h.1 c (1 : Fin 3)).trans (final_w m c)⟩, h.2⟩)
    (run_main (F := Bits) m ρ)

/-- So does the kernel over the extended reals. -/
theorem frame_ideal : Cert.quiescent_KernelIdeal := fun m ρ _ =>
  (θ_run Cert.KernelIdeal.defs _ _).mono
    (fun _ h => ⟨fun c => ⟨(h.1 c (0 : Fin 3)).trans (final_x m c), (h.1 c (1 : Fin 3)).trans (final_w m c)⟩, h.2⟩)
    (run_main (F := Ideal) m ρ)

/-- So does the reference, which has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Each device ends with its block of rows of the product the reference computes. -/
theorem same_value : Cert.algebraic_KernelIdeal_ReferenceIdeal := fun m g m' g' _ h =>
  ⟨_, (θ_run Cert.KernelIdeal.defs _ _).mono
      (fun _ e c => ⟨(e.1 c (2 : Fin 3)).trans (out_block m _ _ (fun c => (h c).1) (fun c => (h c).2) c),
        (e.1 c (0 : Fin 3)).trans (final_x m c), (e.1 c (1 : Fin 3)).trans (final_w m c)⟩)
      (run_main (F := Ideal) m g),
    (θ_run Cert.ReferenceIdeal.defs _ _).mono (fun _ e => e 0) (Cert.ReferenceIdeal.Value.run (F := Ideal) m' g')⟩

/-- Every claim. -/
theorem claim : Cert.Claim :=
  ⟨Cert.Kernel.Gen.facts, Cert.KernelIdeal.Gen.facts, Cert.ReferenceIdeal.Gen.facts,
    frame_kernel, frame_ideal, frame_reference, trivial, same_value⟩

end Cert.Proof

end
